-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_sorted_segments_gates_below_inf [hPre_sorted_segments_gates_below_inf : Cert.Pre_sorted_segments_gates_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments_gates_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments_gates_below_inf [hPre_sorted_segments_gates_below_inf : Cert.Pre_sorted_segments_gates_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments_gates_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_UnshiftedIdeal (m : (ℓ : Loc Cert.UnshiftedIdeal.nD Cert.UnshiftedIdeal.τ Cert.UnshiftedIdeal.sig) → Buf (Elt Ideal) ℓ) : Prop :=
  True

def Pre_UnshiftedIdeal_sorted_segments [hPre_sorted_segments : Cert.Pre_sorted_segments.Facts] (m : (ℓ : Loc Cert.UnshiftedIdeal.nD Cert.UnshiftedIdeal.τ Cert.UnshiftedIdeal.sig) → Buf (Elt Ideal) ℓ) : Prop :=
  ∀ c : Dev Cert.UnshiftedIdeal.nD,
    (Cert.Pre_sorted_segments.fn (F := Ideal) (m ((c.tc : Thread Cert.UnshiftedIdeal.nD Cert.UnshiftedIdeal.τ).loc Cert.UnshiftedIdeal.main_arg0)) (m ((c.tc : Thread Cert.UnshiftedIdeal.nD Cert.UnshiftedIdeal.τ).loc Cert.UnshiftedIdeal.main_arg1)) (m ((c.tc : Thread Cert.UnshiftedIdeal.nD Cert.UnshiftedIdeal.τ).loc Cert.UnshiftedIdeal.main_arg2)) (m ((c.tc : Thread Cert.UnshiftedIdeal.nD Cert.UnshiftedIdeal.τ).loc Cert.UnshiftedIdeal.main_arg3)) (m ((c.tc : Thread Cert.UnshiftedIdeal.nD Cert.UnshiftedIdeal.τ).loc Cert.UnshiftedIdeal.main_arg4)) (m ((c.tc : Thread Cert.UnshiftedIdeal.nD Cert.UnshiftedIdeal.τ).loc Cert.UnshiftedIdeal.main_arg5))) = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_segments_gates_below_inf [hKernelIdeal : Cert.KernelIdeal.Facts] [hPre_sorted_segments_gates_below_inf : Cert.Pre_sorted_segments_gates_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments_gates_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_segments_gates_below_inf [hReferenceIdeal : Cert.ReferenceIdeal.Facts] [hPre_sorted_segments_gates_below_inf : Cert.Pre_sorted_segments_gates_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments_gates_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UnshiftedIdeal [hUnshiftedIdeal : Cert.UnshiftedIdeal.Facts] : Prop :=
  ∀ (m : (ℓ : Loc Cert.UnshiftedIdeal.nD Cert.UnshiftedIdeal.τ Cert.UnshiftedIdeal.sig) → Buf (Elt Ideal) ℓ) (g : Dev Cert.UnshiftedIdeal.nD → PrngReg), Pre_UnshiftedIdeal m →
    θ_run (Cert.UnshiftedIdeal.defs (F := Ideal)) (onTc (τ := Cert.UnshiftedIdeal.τ) (Cert.UnshiftedIdeal.main (F := Ideal))) ⟨m, fun _ => 0, g⟩ (fun r => (∀ c : Dev Cert.UnshiftedIdeal.nD,
      r.2.mem ((c.tc : Thread Cert.UnshiftedIdeal.nD Cert.UnshiftedIdeal.τ).loc Cert.UnshiftedIdeal.main_arg0) = m ((c.tc : Thread Cert.UnshiftedIdeal.nD Cert.UnshiftedIdeal.τ).loc Cert.UnshiftedIdeal.main_arg0)
      ∧ r.2.mem ((c.tc : Thread Cert.UnshiftedIdeal.nD Cert.UnshiftedIdeal.τ).loc Cert.UnshiftedIdeal.main_arg1) = m ((c.tc : Thread Cert.UnshiftedIdeal.nD Cert.UnshiftedIdeal.τ).loc Cert.UnshiftedIdeal.main_arg1)
      ∧ r.2.mem ((c.tc : Thread Cert.UnshiftedIdeal.nD Cert.UnshiftedIdeal.τ).loc Cert.UnshiftedIdeal.main_arg2) = m ((c.tc : Thread Cert.UnshiftedIdeal.nD Cert.UnshiftedIdeal.τ).loc Cert.UnshiftedIdeal.main_arg2)
      ∧ r.2.mem ((c.tc : Thread Cert.UnshiftedIdeal.nD Cert.UnshiftedIdeal.τ).loc Cert.UnshiftedIdeal.main_arg3) = m ((c.tc : Thread Cert.UnshiftedIdeal.nD Cert.UnshiftedIdeal.τ).loc Cert.UnshiftedIdeal.main_arg3)
      ∧ r.2.mem ((c.tc : Thread Cert.UnshiftedIdeal.nD Cert.UnshiftedIdeal.τ).loc Cert.UnshiftedIdeal.main_arg4) = m ((c.tc : Thread Cert.UnshiftedIdeal.nD Cert.UnshiftedIdeal.τ).loc Cert.UnshiftedIdeal.main_arg4)
      ∧ r.2.mem ((c.tc : Thread Cert.UnshiftedIdeal.nD Cert.UnshiftedIdeal.τ).loc Cert.UnshiftedIdeal.main_arg5) = m ((c.tc : Thread Cert.UnshiftedIdeal.nD Cert.UnshiftedIdeal.τ).loc Cert.UnshiftedIdeal.main_arg5))
      ∧ r.2.sem = fun _ => 0)

def quiescent_UnshiftedIdeal_pre_sorted_segments [hUnshiftedIdeal : Cert.UnshiftedIdeal.Facts] [hPre_sorted_segments : Cert.Pre_sorted_segments.Facts] : Prop :=
  ∀ (m : (ℓ : Loc Cert.UnshiftedIdeal.nD Cert.UnshiftedIdeal.τ Cert.UnshiftedIdeal.sig) → Buf (Elt Ideal) ℓ) (g : Dev Cert.UnshiftedIdeal.nD → PrngReg), Pre_UnshiftedIdeal_sorted_segments m →
    θ_run (Cert.UnshiftedIdeal.defs (F := Ideal)) (onTc (τ := Cert.UnshiftedIdeal.τ) (Cert.UnshiftedIdeal.main (F := Ideal))) ⟨m, fun _ => 0, g⟩ (fun r => (∀ c : Dev Cert.UnshiftedIdeal.nD,
      r.2.mem ((c.tc : Thread Cert.UnshiftedIdeal.nD Cert.UnshiftedIdeal.τ).loc Cert.UnshiftedIdeal.main_arg0) = m ((c.tc : Thread Cert.UnshiftedIdeal.nD Cert.UnshiftedIdeal.τ).loc Cert.UnshiftedIdeal.main_arg0)
      ∧ r.2.mem ((c.tc : Thread Cert.UnshiftedIdeal.nD Cert.UnshiftedIdeal.τ).loc Cert.UnshiftedIdeal.main_arg1) = m ((c.tc : Thread Cert.UnshiftedIdeal.nD Cert.UnshiftedIdeal.τ).loc Cert.UnshiftedIdeal.main_arg1)
      ∧ r.2.mem ((c.tc : Thread Cert.UnshiftedIdeal.nD Cert.UnshiftedIdeal.τ).loc Cert.UnshiftedIdeal.main_arg2) = m ((c.tc : Thread Cert.UnshiftedIdeal.nD Cert.UnshiftedIdeal.τ).loc Cert.UnshiftedIdeal.main_arg2)
      ∧ r.2.mem ((c.tc : Thread Cert.UnshiftedIdeal.nD Cert.UnshiftedIdeal.τ).loc Cert.UnshiftedIdeal.main_arg3) = m ((c.tc : Thread Cert.UnshiftedIdeal.nD Cert.UnshiftedIdeal.τ).loc Cert.UnshiftedIdeal.main_arg3)
      ∧ r.2.mem ((c.tc : Thread Cert.UnshiftedIdeal.nD Cert.UnshiftedIdeal.τ).loc Cert.UnshiftedIdeal.main_arg4) = m ((c.tc : Thread Cert.UnshiftedIdeal.nD Cert.UnshiftedIdeal.τ).loc Cert.UnshiftedIdeal.main_arg4)
      ∧ r.2.mem ((c.tc : Thread Cert.UnshiftedIdeal.nD Cert.UnshiftedIdeal.τ).loc Cert.UnshiftedIdeal.main_arg5) = m ((c.tc : Thread Cert.UnshiftedIdeal.nD Cert.UnshiftedIdeal.τ).loc Cert.UnshiftedIdeal.main_arg5))
      ∧ r.2.sem = fun _ => 0)

def preserves_Kernel_KernelIdeal : Prop :=
  True

def algebraic_KernelIdeal_ReferenceIdeal_pre_sorted_segments_gates_below_inf [hKernelIdeal : Cert.KernelIdeal.Facts] [hReferenceIdeal : Cert.ReferenceIdeal.Facts] [hPre_sorted_segments_gates_below_inf : Cert.Pre_sorted_segments_gates_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments_gates_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_UnshiftedIdeal [hKernelIdeal : Cert.KernelIdeal.Facts] [hUnshiftedIdeal : Cert.UnshiftedIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnshiftedIdeal.nD Cert.UnshiftedIdeal.τ Cert.UnshiftedIdeal.sig) → Buf (Elt Ideal) ℓ) (g' : Dev Cert.UnshiftedIdeal.nD → PrngReg), Pre_KernelIdeal m →
    (∀ c : Dev Cert.KernelIdeal.nD,
      m' ((c.tc : Thread Cert.UnshiftedIdeal.nD Cert.UnshiftedIdeal.τ).loc Cert.UnshiftedIdeal.main_arg0) = m ((c.tc : Thread Cert.KernelIdeal.nD Cert.KernelIdeal.τ).loc Cert.KernelIdeal.main_arg0)
      ∧ m' ((c.tc : Thread Cert.UnshiftedIdeal.nD Cert.UnshiftedIdeal.τ).loc Cert.UnshiftedIdeal.main_arg1) = m ((c.tc : Thread Cert.KernelIdeal.nD Cert.KernelIdeal.τ).loc Cert.KernelIdeal.main_arg1)
      ∧ m' ((c.tc : Thread Cert.UnshiftedIdeal.nD Cert.UnshiftedIdeal.τ).loc Cert.UnshiftedIdeal.main_arg2) = m ((c.tc : Thread Cert.KernelIdeal.nD Cert.KernelIdeal.τ).loc Cert.KernelIdeal.main_arg2)
      ∧ m' ((c.tc : Thread Cert.UnshiftedIdeal.nD Cert.UnshiftedIdeal.τ).loc Cert.UnshiftedIdeal.main_arg3) = m ((c.tc : Thread Cert.KernelIdeal.nD Cert.KernelIdeal.τ).loc Cert.KernelIdeal.main_arg3)
      ∧ m' ((c.tc : Thread Cert.UnshiftedIdeal.nD Cert.UnshiftedIdeal.τ).loc Cert.UnshiftedIdeal.main_arg4) = m ((c.tc : Thread Cert.KernelIdeal.nD Cert.KernelIdeal.τ).loc Cert.KernelIdeal.main_arg4)
      ∧ m' ((c.tc : Thread Cert.UnshiftedIdeal.nD Cert.UnshiftedIdeal.τ).loc Cert.UnshiftedIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.UnshiftedIdeal.defs (F := Ideal)) (onTc (τ := Cert.UnshiftedIdeal.τ) (Cert.UnshiftedIdeal.main (F := Ideal))) ⟨m', fun _ => 0, g'⟩ (fun r => ∀ c : Dev Cert.UnshiftedIdeal.nD,
          r.2.mem ((c.tc : Thread Cert.UnshiftedIdeal.nD Cert.UnshiftedIdeal.τ).loc Cert.UnshiftedIdeal.main_v26) = v0 c
          ∧ r.2.mem ((c.tc : Thread Cert.UnshiftedIdeal.nD Cert.UnshiftedIdeal.τ).loc Cert.UnshiftedIdeal.main_arg0) = m' ((c.tc : Thread Cert.UnshiftedIdeal.nD Cert.UnshiftedIdeal.τ).loc Cert.UnshiftedIdeal.main_arg0)
          ∧ r.2.mem ((c.tc : Thread Cert.UnshiftedIdeal.nD Cert.UnshiftedIdeal.τ).loc Cert.UnshiftedIdeal.main_arg1) = m' ((c.tc : Thread Cert.UnshiftedIdeal.nD Cert.UnshiftedIdeal.τ).loc Cert.UnshiftedIdeal.main_arg1)
          ∧ r.2.mem ((c.tc : Thread Cert.UnshiftedIdeal.nD Cert.UnshiftedIdeal.τ).loc Cert.UnshiftedIdeal.main_arg2) = m' ((c.tc : Thread Cert.UnshiftedIdeal.nD Cert.UnshiftedIdeal.τ).loc Cert.UnshiftedIdeal.main_arg2)
          ∧ r.2.mem ((c.tc : Thread Cert.UnshiftedIdeal.nD Cert.UnshiftedIdeal.τ).loc Cert.UnshiftedIdeal.main_arg3) = m' ((c.tc : Thread Cert.UnshiftedIdeal.nD Cert.UnshiftedIdeal.τ).loc Cert.UnshiftedIdeal.main_arg3)
          ∧ r.2.mem ((c.tc : Thread Cert.UnshiftedIdeal.nD Cert.UnshiftedIdeal.τ).loc Cert.UnshiftedIdeal.main_arg4) = m' ((c.tc : Thread Cert.UnshiftedIdeal.nD Cert.UnshiftedIdeal.τ).loc Cert.UnshiftedIdeal.main_arg4)
          ∧ r.2.mem ((c.tc : Thread Cert.UnshiftedIdeal.nD Cert.UnshiftedIdeal.τ).loc Cert.UnshiftedIdeal.main_arg5) = m' ((c.tc : Thread Cert.UnshiftedIdeal.nD Cert.UnshiftedIdeal.τ).loc Cert.UnshiftedIdeal.main_arg5))

def Claim : Prop :=
  ∃ (hKernel : Cert.Kernel.Facts) (hKernelIdeal : Cert.KernelIdeal.Facts) (hReferenceIdeal : Cert.ReferenceIdeal.Facts) (hUnshiftedIdeal : Cert.UnshiftedIdeal.Facts) (hPre_sorted_segments : Cert.Pre_sorted_segments.Facts) (hPre_sorted_segments_gates_below_inf : Cert.Pre_sorted_segments_gates_below_inf.Facts),
    quiescent_Kernel (hKernel := hKernel) (hPre_sorted_segments := hPre_sorted_segments)
    ∧ quiescent_KernelIdeal (hKernelIdeal := hKernelIdeal) (hPre_sorted_segments := hPre_sorted_segments)
    ∧ quiescent_KernelIdeal_pre_sorted_segments_gates_below_inf (hKernelIdeal := hKernelIdeal) (hPre_sorted_segments_gates_below_inf := hPre_sorted_segments_gates_below_inf)
    ∧ quiescent_ReferenceIdeal (hReferenceIdeal := hReferenceIdeal)
    ∧ quiescent_ReferenceIdeal_pre_sorted_segments_gates_below_inf (hReferenceIdeal := hReferenceIdeal) (hPre_sorted_segments_gates_below_inf := hPre_sorted_segments_gates_below_inf)
    ∧ quiescent_UnshiftedIdeal (hUnshiftedIdeal := hUnshiftedIdeal)
    ∧ quiescent_UnshiftedIdeal_pre_sorted_segments (hUnshiftedIdeal := hUnshiftedIdeal) (hPre_sorted_segments := hPre_sorted_segments)
    ∧ preserves_Kernel_KernelIdeal
    ∧ algebraic_KernelIdeal_ReferenceIdeal_pre_sorted_segments_gates_below_inf (hKernelIdeal := hKernelIdeal) (hReferenceIdeal := hReferenceIdeal) (hPre_sorted_segments_gates_below_inf := hPre_sorted_segments_gates_below_inf)
    ∧ algebraic_KernelIdeal_UnshiftedIdeal (hKernelIdeal := hKernelIdeal) (hUnshiftedIdeal := hUnshiftedIdeal) (hPre_sorted_segments := hPre_sorted_segments)
-- ==== Pre_sorted_segments.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S319999 : Shape := ⟨1, ![319999]⟩
abbrev S_ : Shape := ⟨0, ![]⟩

class Facts : Prop where
  slices_S320000_S319999_0 : S320000.Slices ![0] S319999
  slices_S320000_S319999_1 : S320000.Slices ![1] S319999
  bcast_S_S319999 : S_.BroadcastsInDim S319999 (![] : Fin 0 → Fin S319999.rank)

variable [Facts]

def fn {F : FTy → Type} [FloatOps F] (main_arg0 : FVec F S320000x128 .f32) (main_arg1 : IVec S320000 32) (main_arg2 : FVec F S128x1 .f32) (main_arg3 : FVec F S1 .f32) (main_arg4 : FVec F S128x128 .f32) (main_arg5 : FVec F S128 .f32) : IVec S319999 1 :=
  let main_v0 : IVec S319999 32 := (extractStridedSlice S319999 ![0] · slices_S320000_S319999_0) main_arg1
  let main_v1 : IVec S319999 32 := (extractStridedSlice S319999 ![1] · slices_S320000_S319999_1) main_arg1
  let main_c : IVec S_ 32 := constantI S_ 32 0#32
  let main_v2 : IVec S319999 32 := broadcastInDim S319999 ![] bcast_S_S319999 main_c
  let main_v3 : IVec S319999 1 := cmpi .sge main_v0 main_v2
  let main_v4 : IVec S319999 1 := cmpi .sle main_v0 main_v1
  let main_v5 : IVec S319999 1 := andi main_v3 main_v4
  let main_c_0 : IVec S_ 32 := constantI S_ 32 10000#32
  let main_v6 : IVec S319999 32 := broadcastInDim S319999 ![] bcast_S_S319999 main_c_0
  let main_v7 : IVec S319999 1 := cmpi .slt main_v1 main_v6
  let main_v8 : IVec S319999 1 := andi main_v5 main_v7
  main_v8
-- ==== Pre_sorted_segments_gates_below_inf.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S319999 : Shape := ⟨1, ![319999]⟩
abbrev S319999x1 : Shape := ⟨2, ![319999, 1]⟩
abbrev S320000x1 : Shape := ⟨2, ![320000, 1]⟩
abbrev S1x1 : Shape := ⟨2, ![1, 1]⟩
abbrev S_ : Shape := ⟨0, ![]⟩

class Facts : Prop where
  slices_S320000_S319999_0 : S320000.Slices ![0] S319999
  bcast_S319999_S319999x1_0 : S319999.BroadcastsInDim S319999x1 (![0] : Fin 1 → Fin S319999x1.rank)
  slices_S320000_S319999_1 : S320000.Slices ![1] S319999
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S_S319999x1 : S_.BroadcastsInDim S319999x1 (![] : Fin 0 → Fin S319999x1.rank)
  slices_S320000x1_S319999x1_0_0 : S320000x1.Slices ![0, 0] S319999x1
  slices_S320000x1_S319999x1_1_0 : S320000x1.Slices ![1, 0] S319999x1
  dot_S320000x128_S128x1_S320000x1_1_0_0_1_n_n_wf : DotDims.WF S320000x128 S128x1 S320000x1 [1] [0] [0] [1] [] []

variable [Facts]

def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf
def fn_part1 {F : FTy → Type} [FloatOps F] (main_v18 : IVec S319999x1 1) (main_v19 : FVec F S319999x1 .f32) (main_cst_1 : FVec F S_ .f32) : IVec S319999x1 1 :=
  let main_v20 : FVec F S319999x1 .f32 := broadcastInDim S319999x1 ![] bcast_S_S319999x1 main_cst_1
  let main_v21 : IVec S319999x1 1 := cmpf .olt main_v19 main_v20
  let main_v22 : IVec S319999x1 1 := andi main_v18 main_v21
  main_v22

def fn {F : FTy → Type} [FloatOps F] (main_arg0 : FVec F S320000x128 .f32) (main_arg1 : IVec S320000 32) (main_arg2 : FVec F S128x1 .f32) (main_arg3 : FVec F S1 .f32) (main_arg4 : FVec F S128x128 .f32) (main_arg5 : FVec F S128 .f32) : IVec S319999x1 1 :=
  let main_v0 : IVec S319999 32 := (extractStridedSlice S319999 ![0] · slices_S320000_S319999_0) main_arg1
  let main_v1 : IVec S319999x1 32 := broadcastInDim S319999x1 ![0] bcast_S319999_S319999x1_0 main_v0
  let main_v2 : IVec S319999 32 := (extractStridedSlice S319999 ![1] · slices_S320000_S319999_1) main_arg1
  let main_v3 : IVec S319999x1 32 := broadcastInDim S319999x1 ![0] bcast_S319999_S319999x1_0 main_v2
  let main_v4 : FVec F S320000x1 .f32 := (fun l r => Host.dotGeneral dot_S320000x128_S128x1_S320000x1_1_0_0_1_n_n none l r) main_arg0 main_arg2
  let main_v5 : FVec F S1x1 .f32 := broadcastInDim S1x1 ![1] bcast_S1_S1x1_1 main_arg3
  let main_v6 : FVec F S320000x1 .f32 := broadcastInDim S320000x1 ![0, 1] bcast_S1x1_S320000x1_0_1 main_v5
  let main_v7 : FVec F S320000x1 .f32 := addf main_v4 main_v6
  let main_c : IVec S_ 32 := constantI S_ 32 0#32
  let main_v8 : IVec S319999x1 32 := broadcastInDim S319999x1 ![] bcast_S_S319999x1 main_c
  let main_v9 : IVec S319999x1 1 := cmpi .sge main_v1 main_v8
  let main_v10 : IVec S319999x1 1 := cmpi .sle main_v1 main_v3
  let main_v11 : IVec S319999x1 1 := andi main_v9 main_v10
  let main_c_0 : IVec S_ 32 := constantI S_ 32 10000#32
  let main_v12 : IVec S319999x1 32 := broadcastInDim S319999x1 ![] bcast_S_S319999x1 main_c_0
  let main_v13 : IVec S319999x1 1 := cmpi .slt main_v3 main_v12
  let main_v14 : IVec S319999x1 1 := andi main_v11 main_v13
  let main_v15 : FVec F S319999x1 .f32 := (extractStridedSlice S319999x1 ![0, 0] · slices_S320000x1_S319999x1_0_0) main_v7
  let main_cst : FVec F S_ .f32 := constant S_ .f32 0x7F800000#32
  let main_v16 : FVec F S319999x1 .f32 := broadcastInDim S319999x1 ![] bcast_S_S319999x1 main_cst
  let main_v17 : IVec S319999x1 1 := cmpf .olt main_v15 main_v16
  let main_v18 : IVec S319999x1 1 := andi main_v14 main_v17
  let main_v19 : FVec F S319999x1 .f32 := (extractStridedSlice S319999x1 ![1, 0] · slices_S320000x1_S319999x1_1_0) main_v7
  let main_cst_1 : FVec F S_ .f32 := constant S_ .f32 0x7F800000#32
  fn_part1 (F := F) main_v18 main_v19 main_cst_1
-- ==== Kernel.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S125x1x2560 : Shape := ⟨3, ![125, 1, 2560]⟩
abbrev S1x1 : Shape := ⟨2, ![1, 1]⟩
abbrev S1x128 : Shape := ⟨2, ![1, 128]⟩
abbrev S10000x128 : Shape := ⟨2, ![10000, 128]⟩
abbrev S1x1x2560 : Shape := ⟨3, ![1, 1, 2560]⟩
abbrev S2560x128 : Shape := ⟨2, ![2560, 128]⟩
abbrev S10000x1 : Shape := ⟨2, ![10000, 1]⟩
abbrev S2560x1 : Shape := ⟨2, ![2560, 1]⟩
abbrev S2560 : Shape := ⟨1, ![2560]⟩

abbrev nBuf : Space → Nat
  | .hbm => 10
  | .vmem => 10
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S125x1x2560, .i32⟩
  | .hbm, ⟨7, _⟩ => ⟨S1x1, .f32⟩
  | .hbm, ⟨8, _⟩ => ⟨S1x128, .f32⟩
  | .hbm, ⟨9, _⟩ => ⟨S10000x128, .f32⟩
  | .local _ .vmem, ⟨0, _⟩ => ⟨S1x1x2560, .i32⟩
  | .local _ .vmem, ⟨1, _⟩ => ⟨S1x1x2560, .i32⟩
  | .local _ .vmem, ⟨2, _⟩ => ⟨S2560x128, .f32⟩
  | .local _ .vmem, ⟨3, _⟩ => ⟨S2560x128, .f32⟩
  | .local _ .vmem, ⟨4, _⟩ => ⟨S128x1, .f32⟩
  | .local _ .vmem, ⟨5, _⟩ => ⟨S1x1, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![125], ![false]⟩

@[reducible] def k0_t1_loop (v22 : BitVec 32) (v41 : BitVec 32) : Scf.Loop 32 :=
  let c0_i32_14 : BitVec 32 := 0#32
  let v24 : BitVec 1 := Scalar.cmpi .sgt v22 c0_i32_14
  let v25 : BitVec 32 := Scalar.extui v24
  let c0_i32_15 : BitVec 32 := 0#32
  let v26 : BitVec 1 := Scalar.cmpi .slt v22 c0_i32_15
  let v27 : BitVec 32 := Scalar.extui v26
  let v28 : BitVec 32 := Scalar.subi v25 v27
  let c128_i32 : BitVec 32 := 128#32
  let c0_i32_16 : BitVec 32 := 0#32
  let v29 : BitVec 1 := Scalar.cmpi .sgt c128_i32 c0_i32_16
  let v30 : BitVec 32 := Scalar.extui v29
  let c0_i32_17 : BitVec 32 := 0#32
  let v31 : BitVec 1 := Scalar.cmpi .slt c128_i32 c0_i32_17
  let v32 : BitVec 32 := Scalar.extui v31
  let v33 : BitVec 32 := Scalar.subi v30 v32
  let v34 : BitVec 1 := Scalar.cmpi .ne v28 v33
  let v35 : BitVec 32 := Scalar.remsi v22 c128_i32
  let c0_i32_18 : BitVec 32 := 0#32
  let v36 : BitVec 1 := Scalar.cmpi .ne v35 c0_i32_18
  let v37 : BitVec 1 := Scalar.andi v34 v36
  let v23 : BitVec 32 := Scalar.divsi v22 c128_i32
  let c1_i32 : BitVec 32 := 1#32
  let v38 : BitVec 32 := Scalar.subi v23 c1_i32
  let v39 : BitVec 32 := Scalar.select v37 v38 v23
  let c0_i32_20 : BitVec 32 := 0#32
  let v43 : BitVec 1 := Scalar.cmpi .sgt v41 c0_i32_20
  let v44 : BitVec 32 := Scalar.extui v43
  let c0_i32_21 : BitVec 32 := 0#32
  let v45 : BitVec 1 := Scalar.cmpi .slt v41 c0_i32_21
  let v46 : BitVec 32 := Scalar.extui v45
  let v47 : BitVec 32 := Scalar.subi v44 v46
  let c128_i32_19 : BitVec 32 := 128#32
  let c0_i32_22 : BitVec 32 := 0#32
  let v48 : BitVec 1 := Scalar.cmpi .sgt c128_i32_19 c0_i32_22
  let v49 : BitVec 32 := Scalar.extui v48
  let c0_i32_23 : BitVec 32 := 0#32
  let v50 : BitVec 1 := Scalar.cmpi .slt c128_i32_19 c0_i32_23
  let v51 : BitVec 32 := Scalar.extui v50
  let v52 : BitVec 32 := Scalar.subi v49 v51
  let v53 : BitVec 1 := Scalar.cmpi .ne v47 v52
  let v54 : BitVec 32 := Scalar.remsi v41 c128_i32_19
  let c0_i32_24 : BitVec 32 := 0#32
  let v55 : BitVec 1 := Scalar.cmpi .ne v54 c0_i32_24
  let v56 : BitVec 1 := Scalar.andi v53 v55
  let v42 : BitVec 32 := Scalar.divsi v41 c128_i32_19
  let c1_i32_25 : BitVec 32 := 1#32
  let v57 : BitVec 32 := Scalar.subi v42 c1_i32_25
  let v58 : BitVec 32 := Scalar.select v56 v57 v42
  let c1_i32_26 : BitVec 32 := 1#32
  let v59 : BitVec 32 := Scalar.addi v58 c1_i32_26
  let v60 : BitVec 32 := Scalar.subi v59 v39
  let c1_i32_28 : BitVec 32 := 1#32
  let v62 : BitVec 32 := Scalar.divsi v60 c1_i32_28
  let v63 : BitVec 32 := Scalar.muli v62 c1_i32_28
  let v64 : BitVec 32 := Scalar.addi v39 v63
  let c1_i32_29 : BitVec 32 := 1#32
  ⟨v39, v64, c1_i32_29⟩

def k0_off1 (v22 : BitVec 32) (v41 : BitVec 32) (k0_t1 : Fin (k0_t1_loop v22 v41).trips) : Fin 2 → Nat :=
  let c0_i32_14 : BitVec 32 := 0#32
  let v24 : BitVec 1 := Scalar.cmpi .sgt v22 c0_i32_14
  let v25 : BitVec 32 := Scalar.extui v24
  let c0_i32_15 : BitVec 32 := 0#32
  let v26 : BitVec 1 := Scalar.cmpi .slt v22 c0_i32_15
  let v27 : BitVec 32 := Scalar.extui v26
  let v28 : BitVec 32 := Scalar.subi v25 v27
  let c128_i32 : BitVec 32 := 128#32
  let c0_i32_16 : BitVec 32 := 0#32
  let v29 : BitVec 1 := Scalar.cmpi .sgt c128_i32 c0_i32_16
  let v30 : BitVec 32 := Scalar.extui v29
  let c0_i32_17 : BitVec 32 := 0#32
  let v31 : BitVec 1 := Scalar.cmpi .slt c128_i32 c0_i32_17
  let v32 : BitVec 32 := Scalar.extui v31
  let v33 : BitVec 32 := Scalar.subi v30 v32
  let v34 : BitVec 1 := Scalar.cmpi .ne v28 v33
  let v35 : BitVec 32 := Scalar.remsi v22 c128_i32
  let c0_i32_18 : BitVec 32 := 0#32
  let v36 : BitVec 1 := Scalar.cmpi .ne v35 c0_i32_18
  let v37 : BitVec 1 := Scalar.andi v34 v36
  let v23 : BitVec 32 := Scalar.divsi v22 c128_i32
  let c1_i32 : BitVec 32 := 1#32
  let v38 : BitVec 32 := Scalar.subi v23 c1_i32
  let v39 : BitVec 32 := Scalar.select v37 v38 v23
  let c1_i32_29 : BitVec 32 := 1#32
  let arg9 : BitVec 32 := Scf.iv v39 c1_i32_29 k0_t1
  let c128_i32_32 : BitVec 32 := 128#32
  let v68 : BitVec 32 := Scalar.muli arg9 c128_i32_32
  let c9872_i32 : BitVec 32 := 9872#32
  let v69 : BitVec 32 := Scalar.minsi v68 c9872_i32
  let v85 : Index := Scalar.indexCast v69
  let c0_35 : Index := 0#32
  ![v85.toNat, 0]
def k0_off2 (v22 : BitVec 32) (v41 : BitVec 32) (k0_t1 : Fin (k0_t1_loop v22 v41).trips) : Fin 2 → Nat :=
  let c0_i32_14 : BitVec 32 := 0#32
  let v24 : BitVec 1 := Scalar.cmpi .sgt v22 c0_i32_14
  let v25 : BitVec 32 := Scalar.extui v24
  let c0_i32_15 : BitVec 32 := 0#32
  let v26 : BitVec 1 := Scalar.cmpi .slt v22 c0_i32_15
  let v27 : BitVec 32 := Scalar.extui v26
  let v28 : BitVec 32 := Scalar.subi v25 v27
  let c128_i32 : BitVec 32 := 128#32
  let c0_i32_16 : BitVec 32 := 0#32
  let v29 : BitVec 1 := Scalar.cmpi .sgt c128_i32 c0_i32_16
  let v30 : BitVec 32 := Scalar.extui v29
  let c0_i32_17 : BitVec 32 := 0#32
  let v31 : BitVec 1 := Scalar.cmpi .slt c128_i32 c0_i32_17
  let v32 : BitVec 32 := Scalar.extui v31
  let v33 : BitVec 32 := Scalar.subi v30 v32
  let v34 : BitVec 1 := Scalar.cmpi .ne v28 v33
  let v35 : BitVec 32 := Scalar.remsi v22 c128_i32
  let c0_i32_18 : BitVec 32 := 0#32
  let v36 : BitVec 1 := Scalar.cmpi .ne v35 c0_i32_18
  let v37 : BitVec 1 := Scalar.andi v34 v36
  let v23 : BitVec 32 := Scalar.divsi v22 c128_i32
  let c1_i32 : BitVec 32 := 1#32
  let v38 : BitVec 32 := Scalar.subi v23 c1_i32
  let v39 : BitVec 32 := Scalar.select v37 v38 v23
  let c1_i32_29 : BitVec 32 := 1#32
  let arg9 : BitVec 32 := Scf.iv v39 c1_i32_29 k0_t1
  let c128_i32_32 : BitVec 32 := 128#32
  let v68 : BitVec 32 := Scalar.muli arg9 c128_i32_32
  let c9872_i32 : BitVec 32 := 9872#32
  let v69 : BitVec 32 := Scalar.minsi v68 c9872_i32
  let v91 : Index := Scalar.indexCast v69
  let c0_37 : Index := 0#32
  ![v91.toNat, 0]
@[reducible] def k0_t2_loop (v22 : BitVec 32) (v41 : BitVec 32) : Scf.Loop 32 :=
  let c0_i32_14 : BitVec 32 := 0#32
  let v24 : BitVec 1 := Scalar.cmpi .sgt v22 c0_i32_14
  let v25 : BitVec 32 := Scalar.extui v24
  let c0_i32_15 : BitVec 32 := 0#32
  let v26 : BitVec 1 := Scalar.cmpi .slt v22 c0_i32_15
  let v27 : BitVec 32 := Scalar.extui v26
  let v28 : BitVec 32 := Scalar.subi v25 v27
  let c128_i32 : BitVec 32 := 128#32
  let c0_i32_16 : BitVec 32 := 0#32
  let v29 : BitVec 1 := Scalar.cmpi .sgt c128_i32 c0_i32_16
  let v30 : BitVec 32 := Scalar.extui v29
  let c0_i32_17 : BitVec 32 := 0#32
  let v31 : BitVec 1 := Scalar.cmpi .slt c128_i32 c0_i32_17
  let v32 : BitVec 32 := Scalar.extui v31
  let v33 : BitVec 32 := Scalar.subi v30 v32
  let v34 : BitVec 1 := Scalar.cmpi .ne v28 v33
  let v35 : BitVec 32 := Scalar.remsi v22 c128_i32
  let c0_i32_18 : BitVec 32 := 0#32
  let v36 : BitVec 1 := Scalar.cmpi .ne v35 c0_i32_18
  let v37 : BitVec 1 := Scalar.andi v34 v36
  let v23 : BitVec 32 := Scalar.divsi v22 c128_i32
  let c1_i32 : BitVec 32 := 1#32
  let v38 : BitVec 32 := Scalar.subi v23 c1_i32
  let v39 : BitVec 32 := Scalar.select v37 v38 v23
  let c0_i32_20 : BitVec 32 := 0#32
  let v43 : BitVec 1 := Scalar.cmpi .sgt v41 c0_i32_20
  let v44 : BitVec 32 := Scalar.extui v43
  let c0_i32_21 : BitVec 32 := 0#32
  let v45 : BitVec 1 := Scalar.cmpi .slt v41 c0_i32_21
  let v46 : BitVec 32 := Scalar.extui v45
  let v47 : BitVec 32 := Scalar.subi v44 v46
  let c128_i32_19 : BitVec 32 := 128#32
  let c0_i32_22 : BitVec 32 := 0#32
  let v48 : BitVec 1 := Scalar.cmpi .sgt c128_i32_19 c0_i32_22
  let v49 : BitVec 32 := Scalar.extui v48
  let c0_i32_23 : BitVec 32 := 0#32
  let v50 : BitVec 1 := Scalar.cmpi .slt c128_i32_19 c0_i32_23
  let v51 : BitVec 32 := Scalar.extui v50
  let v52 : BitVec 32 := Scalar.subi v49 v51
  let v53 : BitVec 1 := Scalar.cmpi .ne v47 v52
  let v54 : BitVec 32 := Scalar.remsi v41 c128_i32_19
  let c0_i32_24 : BitVec 32 := 0#32
  let v55 : BitVec 1 := Scalar.cmpi .ne v54 c0_i32_24
  let v56 : BitVec 1 := Scalar.andi v53 v55
  let v42 : BitVec 32 := Scalar.divsi v41 c128_i32_19
  let c1_i32_25 : BitVec 32 := 1#32
  let v57 : BitVec 32 := Scalar.subi v42 c1_i32_25
  let v58 : BitVec 32 := Scalar.select v56 v57 v42
  let c1_i32_26 : BitVec 32 := 1#32
  let v59 : BitVec 32 := Scalar.addi v58 c1_i32_26
  let v60 : BitVec 32 := Scalar.subi v59 v39
  let c1_i32_28 : BitVec 32 := 1#32
  let v62 : BitVec 32 := Scalar.divsi v60 c1_i32_28
  let v63 : BitVec 32 := Scalar.muli v62 c1_i32_28
  let v64 : BitVec 32 := Scalar.addi v39 v63
  let v61 : BitVec 32 := Scalar.addi v39 v60
  let c1_i32_30 : BitVec 32 := 1#32
  ⟨v64, v61, c1_i32_30⟩
def k0_off3 (v22 : BitVec 32) (v41 : BitVec 32) (k0_t2 : Fin (k0_t2_loop v22 v41).trips) : Fin 2 → Nat :=
  let c0_i32_14 : BitVec 32 := 0#32
  let v24 : BitVec 1 := Scalar.cmpi .sgt v22 c0_i32_14
  let v25 : BitVec 32 := Scalar.extui v24
  let c0_i32_15 : BitVec 32 := 0#32
  let v26 : BitVec 1 := Scalar.cmpi .slt v22 c0_i32_15
  let v27 : BitVec 32 := Scalar.extui v26
  let v28 : BitVec 32 := Scalar.subi v25 v27
  let c128_i32 : BitVec 32 := 128#32
  let c0_i32_16 : BitVec 32 := 0#32
  let v29 : BitVec 1 := Scalar.cmpi .sgt c128_i32 c0_i32_16
  let v30 : BitVec 32 := Scalar.extui v29
  let c0_i32_17 : BitVec 32 := 0#32
  let v31 : BitVec 1 := Scalar.cmpi .slt c128_i32 c0_i32_17
  let v32 : BitVec 32 := Scalar.extui v31
  let v33 : BitVec 32 := Scalar.subi v30 v32
  let v34 : BitVec 1 := Scalar.cmpi .ne v28 v33
  let v35 : BitVec 32 := Scalar.remsi v22 c128_i32
  let c0_i32_18 : BitVec 32 := 0#32
  let v36 : BitVec 1 := Scalar.cmpi .ne v35 c0_i32_18
  let v37 : BitVec 1 := Scalar.andi v34 v36
  let v23 : BitVec 32 := Scalar.divsi v22 c128_i32
  let c1_i32 : BitVec 32 := 1#32
  let v38 : BitVec 32 := Scalar.subi v23 c1_i32
  let v39 : BitVec 32 := Scalar.select v37 v38 v23
  let c0_i32_20 : BitVec 32 := 0#32
  let v43 : BitVec 1 := Scalar.cmpi .sgt v41 c0_i32_20
  let v44 : BitVec 32 := Scalar.extui v43
  let c0_i32_21 : BitVec 32 := 0#32
  let v45 : BitVec 1 := Scalar.cmpi .slt v41 c0_i32_21
  let v46 : BitVec 32 := Scalar.extui v45
  let v47 : BitVec 32 := Scalar.subi v44 v46
  let c128_i32_19 : BitVec 32 := 128#32
  let c0_i32_22 : BitVec 32 := 0#32
  let v48 : BitVec 1 := Scalar.cmpi .sgt c128_i32_19 c0_i32_22
  let v49 : BitVec 32 := Scalar.extui v48
  let c0_i32_23 : BitVec 32 := 0#32
  let v50 : BitVec 1 := Scalar.cmpi .slt c128_i32_19 c0_i32_23
  let v51 : BitVec 32 := Scalar.extui v50
  let v52 : BitVec 32 := Scalar.subi v49 v51
  let v53 : BitVec 1 := Scalar.cmpi .ne v47 v52
  let v54 : BitVec 32 := Scalar.remsi v41 c128_i32_19
  let c0_i32_24 : BitVec 32 := 0#32
  let v55 : BitVec 1 := Scalar.cmpi .ne v54 c0_i32_24
  let v56 : BitVec 1 := Scalar.andi v53 v55
  let v42 : BitVec 32 := Scalar.divsi v41 c128_i32_19
  let c1_i32_25 : BitVec 32 := 1#32
  let v57 : BitVec 32 := Scalar.subi v42 c1_i32_25
  let v58 : BitVec 32 := Scalar.select v56 v57 v42
  let c1_i32_26 : BitVec 32 := 1#32
  let v59 : BitVec 32 := Scalar.addi v58 c1_i32_26
  let v60 : BitVec 32 := Scalar.subi v59 v39
  let c1_i32_28 : BitVec 32 := 1#32
  let v62 : BitVec 32 := Scalar.divsi v60 c1_i32_28
  let v63 : BitVec 32 := Scalar.muli v62 c1_i32_28
  let v64 : BitVec 32 := Scalar.addi v39 v63
  let c1_i32_30 : BitVec 32 := 1#32
  let arg9 : BitVec 32 := Scf.iv v64 c1_i32_30 k0_t2
  let c128_i32_32 : BitVec 32 := 128#32
  let v68 : BitVec 32 := Scalar.muli arg9 c128_i32_32
  let c9872_i32 : BitVec 32 := 9872#32
  let v69 : BitVec 32 := Scalar.minsi v68 c9872_i32
  let v85 : Index := Scalar.indexCast v69
  let c0_35 : Index := 0#32
  ![v85.toNat, 0]
def k0_off4 (v22 : BitVec 32) (v41 : BitVec 32) (k0_t2 : Fin (k0_t2_loop v22 v41).trips) : Fin 2 → Nat :=
  let c0_i32_14 : BitVec 32 := 0#32
  let v24 : BitVec 1 := Scalar.cmpi .sgt v22 c0_i32_14
  let v25 : BitVec 32 := Scalar.extui v24
  let c0_i32_15 : BitVec 32 := 0#32
  let v26 : BitVec 1 := Scalar.cmpi .slt v22 c0_i32_15
  let v27 : BitVec 32 := Scalar.extui v26
  let v28 : BitVec 32 := Scalar.subi v25 v27
  let c128_i32 : BitVec 32 := 128#32
  let c0_i32_16 : BitVec 32 := 0#32
  let v29 : BitVec 1 := Scalar.cmpi .sgt c128_i32 c0_i32_16
  let v30 : BitVec 32 := Scalar.extui v29
  let c0_i32_17 : BitVec 32 := 0#32
  let v31 : BitVec 1 := Scalar.cmpi .slt c128_i32 c0_i32_17
  let v32 : BitVec 32 := Scalar.extui v31
  let v33 : BitVec 32 := Scalar.subi v30 v32
  let v34 : BitVec 1 := Scalar.cmpi .ne v28 v33
  let v35 : BitVec 32 := Scalar.remsi v22 c128_i32
  let c0_i32_18 : BitVec 32 := 0#32
  let v36 : BitVec 1 := Scalar.cmpi .ne v35 c0_i32_18
  let v37 : BitVec 1 := Scalar.andi v34 v36
  let v23 : BitVec 32 := Scalar.divsi v22 c128_i32
  let c1_i32 : BitVec 32 := 1#32
  let v38 : BitVec 32 := Scalar.subi v23 c1_i32
  let v39 : BitVec 32 := Scalar.select v37 v38 v23
  let c0_i32_20 : BitVec 32 := 0#32
  let v43 : BitVec 1 := Scalar.cmpi .sgt v41 c0_i32_20
  let v44 : BitVec 32 := Scalar.extui v43
  let c0_i32_21 : BitVec 32 := 0#32
  let v45 : BitVec 1 := Scalar.cmpi .slt v41 c0_i32_21
  let v46 : BitVec 32 := Scalar.extui v45
  let v47 : BitVec 32 := Scalar.subi v44 v46
  let c128_i32_19 : BitVec 32 := 128#32
  let c0_i32_22 : BitVec 32 := 0#32
  let v48 : BitVec 1 := Scalar.cmpi .sgt c128_i32_19 c0_i32_22
  let v49 : BitVec 32 := Scalar.extui v48
  let c0_i32_23 : BitVec 32 := 0#32
  let v50 : BitVec 1 := Scalar.cmpi .slt c128_i32_19 c0_i32_23
  let v51 : BitVec 32 := Scalar.extui v50
  let v52 : BitVec 32 := Scalar.subi v49 v51
  let v53 : BitVec 1 := Scalar.cmpi .ne v47 v52
  let v54 : BitVec 32 := Scalar.remsi v41 c128_i32_19
  let c0_i32_24 : BitVec 32 := 0#32
  let v55 : BitVec 1 := Scalar.cmpi .ne v54 c0_i32_24
  let v56 : BitVec 1 := Scalar.andi v53 v55
  let v42 : BitVec 32 := Scalar.divsi v41 c128_i32_19
  let c1_i32_25 : BitVec 32 := 1#32
  let v57 : BitVec 32 := Scalar.subi v42 c1_i32_25
  let v58 : BitVec 32 := Scalar.select v56 v57 v42
  let c1_i32_26 : BitVec 32 := 1#32
  let v59 : BitVec 32 := Scalar.addi v58 c1_i32_26
  let v60 : BitVec 32 := Scalar.subi v59 v39
  let c1_i32_28 : BitVec 32 := 1#32
  let v62 : BitVec 32 := Scalar.divsi v60 c1_i32_28
  let v63 : BitVec 32 := Scalar.muli v62 c1_i32_28
  let v64 : BitVec 32 := Scalar.addi v39 v63
  let c1_i32_30 : BitVec 32 := 1#32
  let arg9 : BitVec 32 := Scf.iv v64 c1_i32_30 k0_t2
  let c128_i32_32 : BitVec 32 := 128#32
  let v68 : BitVec 32 := Scalar.muli arg9 c128_i32_32
  let c9872_i32 : BitVec 32 := 9872#32
  let v69 : BitVec 32 := Scalar.minsi v68 c9872_i32
  let v91 : Index := Scalar.indexCast v69
  let c0_37 : Index := 0#32
  ![v91.toNat, 0]

def k0_chk1 (v22 : BitVec 32) (v41 : BitVec 32) : Prop :=
  ((k0_t1_loop v22 v41).OK) ∧
  (∀ k0_t1 : Fin (k0_t1_loop v22 v41).trips, ∀ a, (k0_off1 v22 v41 k0_t1) a + S128x128.size a ≤ S10000x128.size a) ∧
  (∀ k0_t1 : Fin (k0_t1_loop v22 v41).trips, ∀ a, (k0_off2 v22 v41 k0_t1) a + S128x1.size a ≤ S10000x1.size a) ∧
  ((k0_t2_loop v22 v41).OK) ∧
  (∀ k0_t2 : Fin (k0_t2_loop v22 v41).trips, ∀ a, (k0_off3 v22 v41 k0_t2) a + S128x128.size a ≤ S10000x128.size a) ∧
  (∀ k0_t2 : Fin (k0_t2_loop v22 v41).trips, ∀ a, (k0_off4 v22 v41 k0_t2) a + S128x1.size a ≤ S10000x1.size a)
theorem k0_t1_ok : ∀ (v22 : BitVec 32) (v41 : BitVec 32) (k0_hw1 : k0_chk1 v22 v41), (k0_t1_loop v22 v41).OK := fun v22 v41 k0_hw1 => k0_hw1.1
theorem k0_off1_inb : ∀ (v22 : BitVec 32) (v41 : BitVec 32) (k0_hw1 : k0_chk1 v22 v41) (k0_t1 : Fin (k0_t1_loop v22 v41).trips), ∀ a, (k0_off1 v22 v41 k0_t1) a + S128x128.size a ≤ S10000x128.size a := fun v22 v41 k0_hw1 k0_t1 => k0_hw1.2.1 k0_t1
theorem k0_off2_inb : ∀ (v22 : BitVec 32) (v41 : BitVec 32) (k0_hw1 : k0_chk1 v22 v41) (k0_t1 : Fin (k0_t1_loop v22 v41).trips), ∀ a, (k0_off2 v22 v41 k0_t1) a + S128x1.size a ≤ S10000x1.size a := fun v22 v41 k0_hw1 k0_t1 => k0_hw1.2.2.1 k0_t1
theorem k0_t2_ok : ∀ (v22 : BitVec 32) (v41 : BitVec 32) (k0_hw1 : k0_chk1 v22 v41), (k0_t2_loop v22 v41).OK := fun v22 v41 k0_hw1 => k0_hw1.2.2.2.1
theorem k0_off3_inb : ∀ (v22 : BitVec 32) (v41 : BitVec 32) (k0_hw1 : k0_chk1 v22 v41) (k0_t2 : Fin (k0_t2_loop v22 v41).trips), ∀ a, (k0_off3 v22 v41 k0_t2) a + S128x128.size a ≤ S10000x128.size a := fun v22 v41 k0_hw1 k0_t2 => k0_hw1.2.2.2.2.1 k0_t2
theorem k0_off4_inb : ∀ (v22 : BitVec 32) (v41 : BitVec 32) (k0_hw1 : k0_chk1 v22 v41) (k0_t2 : Fin (k0_t2_loop v22 v41).trips), ∀ a, (k0_off4 v22 v41 k0_t2) a + S128x1.size a ≤ S10000x1.size a := fun v22 v41 k0_hw1 k0_t2 => k0_hw1.2.2.2.2.2 k0_t2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2560 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S320000x1 : Shape := ⟨2, ![320000, 1]⟩
abbrev S1x1 : Shape := ⟨2, ![1, 1]⟩
abbrev S10000 : Shape := ⟨1, ![10000]⟩
abbrev S1x10000 : Shape := ⟨2, ![1, 10000]⟩
abbrev S320000x10000 : Shape := ⟨2, ![320000, 10000]⟩
abbrev S_ : Shape := ⟨0, ![]⟩
abbrev S10000x1 : Shape := ⟨2, ![10000, 1]⟩
abbrev S1x128 : Shape := ⟨2, ![1, 128]⟩
abbrev S10000x128 : Shape := ⟨2, ![10000, 128]⟩

abbrev nBuf : Space → Nat
  | .hbm => 74
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S320000x1, .f32⟩
  | .hbm, ⟨7, _⟩ => ⟨S1x1, .f32⟩
  | .hbm, ⟨8, _⟩ => ⟨S320000x1, .f32⟩
  | .hbm, ⟨9, _⟩ => ⟨S320000x1, .f32⟩
  | .hbm, ⟨10, _⟩ => ⟨S320000x1, .i32⟩
  | .hbm, ⟨11, _⟩ => ⟨S10000, .i32⟩
  | .hbm, ⟨12, _⟩ => ⟨S1x10000, .i32⟩
  | .hbm, ⟨13, _⟩ => ⟨S320000x10000, .i32⟩
  | .hbm, ⟨14, _⟩ => ⟨S320000x10000, .i32⟩
  | .hbm, ⟨15, _⟩ => ⟨S320000x10000, .i1⟩
  | .hbm, ⟨16, _⟩ => ⟨S_, .f32⟩
  | .hbm, ⟨17, _⟩ => ⟨S_, .f32⟩
  | .hbm, ⟨18, _⟩ => ⟨S320000x10000, .f32⟩
  | .hbm, ⟨19, _⟩ => ⟨S320000x10000, .f32⟩
  | .hbm, ⟨20, _⟩ => ⟨S320000x10000, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x1, .f32⟩
  | .hbm, ⟨33, _⟩ => ⟨S320000x1, .f32⟩
  | .hbm, ⟨34, _⟩ => ⟨S320000x1, .f32⟩
  | .hbm, ⟨35, _⟩ => ⟨S_, .f32⟩
  | .hbm, ⟨36, _⟩ => ⟨S10000x1, .f32⟩
  | .hbm, ⟨37, _⟩ => ⟨S320000x1, .i32⟩
  | .hbm, ⟨38, _⟩ => ⟨S10000x1, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x1, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S320000x1, .f32⟩
  | .hbm, ⟨57, _⟩ => ⟨S320000x1, .f32⟩
  | .hbm, ⟨58, _⟩ => ⟨S320000x1, .f32⟩
  | .hbm, ⟨59, _⟩ => ⟨S_, .f32⟩
  | .hbm, ⟨60, _⟩ => ⟨S320000x1, .f32⟩
  | .hbm, ⟨61, _⟩ => ⟨S320000x1, .f32⟩
  | .hbm, ⟨62, _⟩ => ⟨S320000x1, .f32⟩
  | .hbm, ⟨63, _⟩ => ⟨S320000x1, .f32⟩
  | .hbm, ⟨64, _⟩ => ⟨S320000x128, .f32⟩
  | .hbm, ⟨65, _⟩ => ⟨S1x128, .f32⟩
  | .hbm, ⟨66, _⟩ => ⟨S320000x128, .f32⟩
  | .hbm, ⟨67, _⟩ => ⟨S320000x128, .f32⟩
  | .hbm, ⟨68, _⟩ => ⟨S320000x128, .f32⟩
  | .hbm, ⟨69, _⟩ => ⟨S320000x128, .f32⟩
  | .hbm, ⟨70, _⟩ => ⟨S_, .f32⟩
  | .hbm, ⟨71, _⟩ => ⟨S10000x128, .f32⟩
  | .hbm, ⟨72, _⟩ => ⟨S320000x1, .i32⟩
  | .hbm, ⟨73, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== UnshiftedIdeal.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S320000x1 : Shape := ⟨2, ![320000, 1]⟩
abbrev S1x1 : Shape := ⟨2, ![1, 1]⟩
abbrev S_ : Shape := ⟨0, ![]⟩
abbrev S10000x1 : Shape := ⟨2, ![10000, 1]⟩
abbrev S1x128 : Shape := ⟨2, ![1, 128]⟩
abbrev S10000x128 : Shape := ⟨2, ![10000, 128]⟩

abbrev nBuf : Space → Nat
  | .hbm => 38
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S320000x1, .f32⟩
  | .hbm, ⟨7, _⟩ => ⟨S1x1, .f32⟩
  | .hbm, ⟨8, _⟩ => ⟨S320000x1, .f32⟩
  | .hbm, ⟨9, _⟩ => ⟨S320000x1, .f32⟩
  | .hbm, ⟨10, _⟩ => ⟨S320000x1, .f32⟩
  | .hbm, ⟨11, _⟩ => ⟨S_, .f32⟩
  | .hbm, ⟨12, _⟩ => ⟨S10000x1, .f32⟩
  | .hbm, ⟨13, _⟩ => ⟨S320000x1, .i32⟩
  | .hbm, ⟨14, _⟩ => ⟨S10000x1, .f32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x1, .f32⟩
  | .hbm, ⟨24, _⟩ => ⟨S_, .f32⟩
  | .hbm, ⟨25, _⟩ => ⟨S320000x1, .f32⟩
  | .hbm, ⟨26, _⟩ => ⟨S320000x1, .f32⟩
  | .hbm, ⟨27, _⟩ => ⟨S320000x1, .f32⟩
  | .hbm, ⟨28, _⟩ => ⟨S320000x128, .f32⟩
  | .hbm, ⟨29, _⟩ => ⟨S1x128, .f32⟩
  | .hbm, ⟨30, _⟩ => ⟨S320000x128, .f32⟩
  | .hbm, ⟨31, _⟩ => ⟨S320000x128, .f32⟩
  | .hbm, ⟨32, _⟩ => ⟨S320000x128, .f32⟩
  | .hbm, ⟨33, _⟩ => ⟨S320000x128, .f32⟩
  | .hbm, ⟨34, _⟩ => ⟨S_, .f32⟩
  | .hbm, ⟨35, _⟩ => ⟨S10000x128, .f32⟩
  | .hbm, ⟨36, _⟩ => ⟨S320000x1, .i32⟩
  | .hbm, ⟨37, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Segments.lean ====
/- The segment numbers: one word per row, sorted and below 10000. The printed precondition says so pair by pair. -/
module

public import proofs.«01_k».proof.Defs

@[expose] public section

noncomputable section

namespace Cert.Segments

open Idealize.ShloMosaic

abbrev Rows : Shape := ⟨1, ![320000]⟩

/-- The index of row `k`. -/
def rowIx (k : ℕ) (h : k < 320000) : Rows.Idx := fun a => ⟨k, by
  have : a = (0 : Fin 1) := Subsingleton.elim _ _
  subst this; exact h⟩

theorem eq_rowIx (i : Rows.Idx) : i = rowIx (i 0).val (i 0).isLt := by
  funext a
  have : a = (0 : Fin 1) := Subsingleton.elim _ _
  subst this; rfl

/-- The numbers are below 10000 and never fall. -/
structure Sorted (x : Rows.Idx → BitVec 32) : Prop where
  lt : ∀ k h, (x (rowIx k h)).toNat < 10000
  mono : ∀ j k (hj : j < 320000) (hk : k < 320000), j ≤ k → (x (rowIx j hj)).toNat ≤ (x (rowIx k hk)).toNat

theorem sorted_of_steps (x : Rows.Idx → BitVec 32)
    (h : ∀ k (hk : k + 1 < 320000), (0#32).sle (x (rowIx k (by omega))) = true
      ∧ (x (rowIx k (by omega))).sle (x (rowIx (k + 1) hk)) = true ∧ (x (rowIx (k + 1) hk)).slt 10000#32 = true) : Sorted x := by
  have step : ∀ k (hk : k + 1 < 320000), (x (rowIx k (by omega))).toNat ≤ (x (rowIx (k + 1) hk)).toNat
      ∧ (x (rowIx (k + 1) hk)).toNat < 10000 := by
    intro k hk
    obtain ⟨h0, h1, h2⟩ := h k hk
    generalize x (rowIx k (by omega)) = a at *
    generalize x (rowIx (k + 1) hk) = b at *
    simp only [BitVec.sle, BitVec.slt, decide_eq_true_eq, BitVec.toInt, BitVec.toNat_ofNat] at h0 h1 h2
    omega
  refine ⟨fun k hk => ?_, fun j k hj hk hjk => ?_⟩
  · rcases k with _ | k
    · exact lt_of_le_of_lt (step 0 (by omega)).1 (step 0 (by omega)).2
    · exact (step k hk).2
  · induction k with
    | zero => obtain rfl : j = 0 := by omega
              exact le_rfl
    | succ k ih =>
      rcases Nat.lt_or_ge k j with h' | h'
      · obtain rfl : j = k + 1 := by omega
        exact le_rfl
      · exact (ih (by omega) h').trans (step k hk).1

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem at_row (x : Rows.Idx → BitVec 32) {k : ℕ} (hk : k < 320000) (f : Rows.Idx) (h : (f 0).val = k) : x f = x (rowIx k hk) := by
  subst h; exact congrArg x (eq_rowIx f)

/-- One pair of neighbours, as the precondition prints it. -/
theorem pair_of (x : Rows.Idx → BitVec 32) (k : ℕ) (hk : k + 1 < 320000) (f g : Rows.Idx) (hf : (f 0).val = k) (hg : (g 0).val = k + 1)
    (e : ((0#32).sle (x f) = true ∧ (x f).sle (x g) = true) ∧ (x g).slt 10000#32 = true) :
    (0#32).sle (x (rowIx k (by omega))) = true
      ∧ (x (rowIx k (by omega))).sle (x (rowIx (k + 1) hk)) = true ∧ (x (rowIx (k + 1) hk)).slt 10000#32 = true := by
  rw [← at_row x _ f hf, ← at_row x _ g hg]
  exact ⟨e.1.1, e.1.2, e.2⟩

section Plain

open Cert.Pre_sorted_segments

variable [Facts] {F : FTy → Type} [FloatOps F]

theorem sorted_of_pre (a0 : FVec F S320000x128 .f32) (x : IVec S320000 32) (a2 : FVec F S128x1 .f32) (a3 : FVec F S1 .f32)
    (a4 : FVec F S128x128 .f32) (a5 : FVec F S128 .f32) (h : fn (F := F) a0 x a2 a3 a4 a5 = fun _ => 1#1) : Sorted x := by
  refine sorted_of_steps x fun k hk => ?_
  have e := congrFun h (fun a => ⟨k, by
    have : a = (0 : Fin 1) := Subsingleton.elim _ _
    subst this; show k < 319999; omega⟩)
  simp only [fn, andi, cmpi, broadcastInDim, constantI, IntOp.cmpi, andi_ofBool, ofBool_eq_one,
      Bool.and_eq_true, extractStridedSlice] at e
  exact pair_of x k hk _ _ (Nat.zero_add k) (Nat.add_comm 1 k) e

end Plain

section Gates

open Cert.Pre_sorted_segments_gates_below_inf

variable [Facts]

/-- The index of the gate of row `k`. -/
def gateIx (k : ℕ) (h : k < 320000) : S320000x1.Idx := fun a => match a with
  | ⟨0, _⟩ => ⟨k, h⟩
  | ⟨1, _⟩ => ⟨0, Nat.one_pos⟩

/-- Every row's gate, as the host computes it. -/
def gates (a0 : FVec Ideal S320000x128 .f32) (a2 : FVec Ideal S128x1 .f32) (a3 : FVec Ideal S1 .f32) : FVec Ideal S320000x1 .f32 :=
  addf (Host.dotGeneral dot_S320000x128_S128x1_S320000x1_1_0_0_1_n_n none a0 a2)
    (broadcastInDim S320000x1 ![0, 1] Facts.bcast_S1x1_S320000x1_0_1 (broadcastInDim S1x1 ![1] Facts.bcast_S1_S1x1_1 a3))

theorem gate_eq (k : ℕ) (h : k < 320000) (i : S320000x1.Idx) (hi : (i 0).val = k) : i = gateIx k h := by
  funext a
  match a with
  | ⟨0, _⟩ => exact Fin.ext hi
  | ⟨1, _⟩ => exact Subsingleton.elim (α := Fin 1) _ _

theorem andi_one {s : Shape} {a b : IVec s 1} {i : s.Idx} (h : andi a b i = 1#1) : a i = 1#1 ∧ b i = 1#1 := by
  have key : ∀ p q : BitVec 1, IntOp.andi p q = 1#1 → p = 1#1 ∧ q = 1#1 := by decide
  exact key _ _ h

theorem below_top {s : Shape} {a b : FVec Ideal s .f32} {i : s.Idx} (h : cmpf .olt a b i = 1#1) : a i < (⊤ : EReal) := by
  have h' : BitVec.ofBool (decide ((a i : EReal) < b i)) = 1#1 := h
  rw [ofBool_eq_one, decide_eq_true_eq] at h'
  exact lt_of_lt_of_le h' le_top

theorem slice_below_top {g : FVec Ideal S320000x1 .f32} {off : Fin 2 → ℕ} {hf} {b : FVec Ideal S319999x1 .f32}
    {i : S319999x1.Idx} (h : cmpf .olt (extractStridedSlice S319999x1 off g hf) b i = 1#1)
    (k : ℕ) (hk : k < 320000) (hi : off 0 + (i 0).val = k) : g (gateIx k hk) < (⊤ : EReal) := by
  have h' := below_top h
  refine lt_of_eq_of_lt (congrArg g (gate_eq k hk _ ?_).symm) h'
  exact hi

theorem of_pre (a0 : FVec Ideal S320000x128 .f32) (x : IVec S320000 32) (a2 : FVec Ideal S128x1 .f32) (a3 : FVec Ideal S1 .f32)
    (a4 : FVec Ideal S128x128 .f32) (a5 : FVec Ideal S128 .f32) (h : fn (F := Ideal) a0 x a2 a3 a4 a5 = fun _ => 1#1) :
    Sorted x ∧ ∀ k hk, gates a0 a2 a3 (gateIx k hk) < (⊤ : EReal) := by
  have key : ∀ k (hk : k + 1 < 320000), ((0#32).sle (x (rowIx k (by omega))) = true
      ∧ (x (rowIx k (by omega))).sle (x (rowIx (k + 1) hk)) = true ∧ (x (rowIx (k + 1) hk)).slt 10000#32 = true)
      ∧ gates a0 a2 a3 (gateIx k (by omega)) < (⊤ : EReal) ∧ gates a0 a2 a3 (gateIx (k + 1) hk) < (⊤ : EReal) := by
    intro k hk
    have e := congrFun h (fun a => match a with
      | ⟨0, _⟩ => ⟨k, show k < 319999 by omega⟩
      | ⟨1, _⟩ => ⟨0, Nat.one_pos⟩)
    unfold fn at e
    simp only [fn_part1] at e
    rw [show addf (Host.dotGeneral dot_S320000x128_S128x1_S320000x1_1_0_0_1_n_n none a0 a2)
      (broadcastInDim S320000x1 ![0, 1] Facts.bcast_S1x1_S320000x1_0_1 (broadcastInDim S1x1 ![1] Facts.bcast_S1_S1x1_1 a3)) = gates a0 a2 a3 from rfl] at e
    generalize gates a0 a2 a3 = g at e ⊢
    obtain ⟨e, eb⟩ := andi_one e
    obtain ⟨e, ea⟩ := andi_one e
    simp only [andi, cmpi, broadcastInDim, constantI, IntOp.cmpi, andi_ofBool, ofBool_eq_one, Bool.and_eq_true,
      extractStridedSlice] at e
    refine ⟨pair_of x k hk _ _ (Nat.zero_add k) (Nat.add_comm 1 k) e, ?_, ?_⟩
    · exact slice_below_top ea k (by omega) (Nat.zero_add k)
    · exact slice_below_top eb (k + 1) hk (Nat.add_comm 1 k)
  refine ⟨sorted_of_steps x fun k hk => (key k hk).1, fun k hk => ?_⟩
  rcases k with _ | k
  · exact (key 0 (by omega)).2.1
  · exact (key k hk).2.2

end Gates

end Cert.Segments

end
-- ==== Proof.KernelIdeal.Words.lean ====
/- The chunk loops of the kernel body as numbers.

   A block's rows carry segment numbers in ascending order. The body reads the first and the last of them, `v22` and
   `v41`, and goes through the chunks of 128 segments from `v22 / 128` to `v41 / 128`, both included. Here that is
   said of the words the program computes: how many trips each loop makes, where the window of a trip starts, and that
   every window lies inside the two accumulators. -/
module

public import proofs.«01_k».proof.Proof.Gen.KernelIdeal.Skeleton
public import Idealize.ShloMosaic.Lib.Affine
public import Idealize.ShloMosaic.Lib.LoopRemainder

@[expose] public section

namespace Cert.KernelIdeal.Words

open Cert.KernelIdeal Cert.KernelIdeal.Gen Idealize.ShloMosaic
open Idealize.ShloMosaic.Affine (IsInt)

/-- The quotient by 128 rounded down, the way the program spells it: the truncated quotient, less one when the signs
    differ and the remainder is not zero. -/
def floor128 (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 128#32 0#32)) (Scalar.extui (Scalar.cmpi .slt 128#32 0#32))))
      (Scalar.cmpi .ne (Scalar.remsi x 128#32) 0#32))
    (Scalar.subi (Scalar.divsi x 128#32) 1#32) (Scalar.divsi x 128#32)

theorem lit (n : ℕ) (h : n < 2 ^ 31) : IsInt (BitVec.ofNat 32 n) n := Affine.ofNat n ⟨rfl, h⟩

/-- Of a word that reads as a nonnegative number it is the quotient. -/
theorem floor128_isInt {x : BitVec 32} {a : ℤ} (hx : IsInt x a) (h0 : 0 ≤ a) (h1 : a < 10000) :
    IsInt (floor128 x) (a / 128) := by
  have z : IsInt 0#32 0 := lit 0 (by decide)
  have c : IsInt 128#32 128 := lit 128 (by decide)
  have q : IsInt (Scalar.divsi x 128#32) (a / 128) := Affine.divsi hx c ⟨rfl, h0, by omega⟩
  have q1 : IsInt (Scalar.subi (Scalar.divsi x 128#32) 1#32) (a / 128 - 1) :=
    Affine.subi q (lit 1 (by decide)) ⟨rfl, by omega, by omega⟩
  have r : IsInt (Scalar.remsi x 128#32) (a % 128) := Affine.remsi hx c ⟨rfl, h0, by omega⟩
  have neg : IsInt (Scalar.extui (Scalar.cmpi .slt x 0#32)) 0 := Affine.extui_fails (Affine.slt_fails hx z (by omega)) rfl
  have sc : IsInt (Scalar.subi (Scalar.extui (Scalar.cmpi .sgt 128#32 0#32)) (Scalar.extui (Scalar.cmpi .slt 128#32 0#32))) 1 :=
    Affine.subi (Affine.extui_holds (Affine.sgt_holds c z (by omega)) rfl)
      (Affine.extui_fails (Affine.slt_fails c z (by omega)) rfl) ⟨rfl, by omega, by omega⟩
  refine Affine.select_fails ?_ q1 q rfl
  rcases Int.lt_or_eq_of_le h0 with hp | hz
  · have pos : IsInt (Scalar.extui (Scalar.cmpi .sgt x 0#32)) 1 := Affine.extui_holds (Affine.sgt_holds hx z hp) rfl
    have sx := Affine.subi (e := 1) pos neg ⟨by omega, by omega, by omega⟩
    exact Affine.andi_fails_left (Affine.ne_fails sx sc rfl) trivial
  · exact Affine.andi_fails_right trivial (Affine.ne_fails r z (by omega))

section Chunks

variable {v22 v41 : BitVec 32} {a b : ℕ}

/-- The two words a block's loops are computed from: they read as `a ≤ b`, both numbers of segments. -/
structure Range (v22 v41 : BitVec 32) (a b : ℕ) : Prop where
  first : IsInt v22 a
  last : IsInt v41 b
  le : a ≤ b
  lt : b < 10000

theorem lb_isInt (h : Range v22 v41 a b) : IsInt (k0_t1_loop v22 v41).lb ((a / 128 : ℕ) : ℤ) := by
  have := h.le; have := h.lt
  have e := floor128_isInt h.first (by omega) (by omega)
  exact Affine.relit e (by omega)

theorem ub_isInt (h : Range v22 v41 a b) : IsInt (k0_t1_loop v22 v41).ub ((b / 128 + 1 : ℕ) : ℤ) := by
  have := h.le; have := h.lt
  have ea := floor128_isInt h.first (by omega) (by omega)
  have eb := floor128_isInt h.last (by omega) (by omega)
  have e1 := Affine.addi (e := (b : ℤ) / 128 + 1) eb (lit 1 (by decide)) ⟨by omega, by omega, by omega⟩
  have e2 := Affine.subi (e := (b : ℤ) / 128 + 1 - (a : ℤ) / 128) e1 ea ⟨by omega, by omega, by omega⟩
  have e3 := Affine.addi (e := (b : ℤ) / 128 + 1) ea e2 ⟨by omega, by omega, by omega⟩
  have e4 : (k0_t1_loop v22 v41).ub
      = Scalar.addi (floor128 v22) (Scalar.muli (Scalar.divsi (Scalar.subi (Scalar.addi (floor128 v41) 1#32) (floor128 v22)) 1#32) 1#32) := rfl
  rw [e4, Scalar.muli_divsi_one]
  exact Affine.relit e3 (by omega)

/-- The first loop makes one trip for each chunk. -/
theorem trips1 (h : Range v22 v41 a b) : (k0_t1_loop v22 v41).trips = b / 128 + 1 - a / 128 := by
  have := h.le
  exact Affine.trips_eq (lb_isInt h) (ub_isInt h) (lit 1 (by decide)) _ ⟨by omega, by omega⟩

/-- The second loop makes none, whatever the words are. -/
theorem trips2 (v22 v41 : BitVec 32) : (k0_t2_loop v22 v41).trips = 0 := Scf.rem_trips _ _

/-- The chunk of trip `k`. -/
theorem iv_isInt (h : Range v22 v41 a b) (k : Fin (k0_t1_loop v22 v41).trips) :
    IsInt (Scf.iv (floor128 v22) 1#32 k.val) ((a / 128 + k.val : ℕ) : ℤ) := by
  have := h.le; have := h.lt
  have hk : k.val < b / 128 + 1 - a / 128 := lt_of_lt_of_eq k.isLt (trips1 h)
  have e := floor128_isInt h.first (by omega) (by omega)
  exact Affine.iv e (lit 1 (by decide)) k.val ⟨by omega, by omega, by omega⟩

/-- The first segment of trip `k`'s chunk. -/
theorem base_isInt (h : Range v22 v41 a b) (k : Fin (k0_t1_loop v22 v41).trips) :
    IsInt (Scalar.muli (Scf.iv (floor128 v22) 1#32 k.val) 128#32) (((a / 128 + k.val) * 128 : ℕ) : ℤ) := by
  have := h.le; have := h.lt
  have hk : k.val < b / 128 + 1 - a / 128 := lt_of_lt_of_eq k.isLt (trips1 h)
  exact Affine.muli (iv_isInt h k) (lit 128 (by decide)) ⟨by push_cast; omega, by omega, by omega⟩

/-- Where the window of the chunk that starts at segment `s` starts: at `s`, but not past the last whole window. -/
def start (s : ℕ) : ℕ := min s 9872

theorem start_isInt (h : Range v22 v41 a b) (k : Fin (k0_t1_loop v22 v41).trips) :
    IsInt (Scalar.minsi (Scalar.muli (Scf.iv (floor128 v22) 1#32 k.val) 128#32) 9872#32) ((start ((a / 128 + k.val) * 128) : ℕ) : ℤ) :=
  Affine.minsi (base_isInt h k) (lit 9872 (by decide)) (by unfold start; omega)

theorem off1_eq (h : Range v22 v41 a b) (k : Fin (k0_t1_loop v22 v41).trips) :
    k0_off1 v22 v41 k = ![start ((a / 128 + k.val) * 128), 0] := by
  have e := Affine.toNat_of (start_isInt h k) (by omega)
  have e' : k0_off1 v22 v41 k
      = ![(Scalar.minsi (Scalar.muli (Scf.iv (floor128 v22) 1#32 k.val) 128#32) 9872#32).toNat, 0] := rfl
  rw [e']; congr 1; exact_mod_cast e

theorem off2_eq (h : Range v22 v41 a b) (k : Fin (k0_t1_loop v22 v41).trips) :
    k0_off2 v22 v41 k = ![start ((a / 128 + k.val) * 128), 0] := off1_eq h k

/-- Every window lies inside its accumulator: what the body assumes before its loops. -/
theorem chk (h : Range v22 v41 a b) : k0_chk1 v22 v41 := by
  have := h.le; have := h.lt
  refine ⟨Affine.ok (lb_isInt h) (ub_isInt h) (lit 1 (by decide)) ⟨by omega, by omega⟩, fun k i => ?_, fun k i => ?_,
    Scf.rem_ok _ _, fun k => absurd k.isLt (by have := trips2 v22 v41; omega), fun k => absurd k.isLt (by have := trips2 v22 v41; omega)⟩
  · rw [off1_eq h k]
    fin_cases i
    · show min _ 9872 + 128 ≤ 10000; omega
    · show 0 + 128 ≤ 128; omega
  · rw [off2_eq h k]
    fin_cases i
    · show min _ 9872 + 128 ≤ 10000; omega
    · show 0 + 1 ≤ 1; omega

end Chunks

end Cert.KernelIdeal.Words
-- ==== Proof.KernelIdeal.Trips.lean ====
/- One trip of the chunk loop, and all of them, as functions of the two accumulators.

   A trip adds to a window of 128 rows of each accumulator: `k0_pay3` of what the output's window held, `k0_pay4` of
   what the denominators' window held. `outAfter n` and `denAfter n` are the accumulators after `n` trips. The loop's
   invariant says the buffers hold exactly these. -/
module

public import proofs.«01_k».proof.Proof.KernelIdeal.Words
public import Idealize.ShloMosaic.Lib.VecWindow
public import Idealize.ShloMosaic.Lib.WholeRead
public import Idealize.ShloMosaic.Lib.Exec
public import Idealize.ShloMosaic.Lib.Tactic

@[expose] public section

set_option maxRecDepth 16384

noncomputable section

namespace Cert.KernelIdeal.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

local notation "𝕄" => MT nD τ sig Unit (Elt F) ℕ (UR sig nD τ) ℕ

section Values

variable (v10 : FVec F S2560x1 .f32) (v18 : FVec F S2560x128 .f32) (v20 : IVec S2560 32)
  (v22 v23 : BitVec 32) (v34 : BitVec 1) (v35 v41 : BitVec 32) (hw : k0_chk1 v22 v41)

/-- The output accumulator after one more trip. -/
def outStep (k : Fin (k0_t1_loop v22 v41).trips) (acc : Vec F S10000x128 .f32) : Vec F S10000x128 .f32 :=
  put acc (k0_off1 v22 v41 k) S128x128.size
    (k0_pay3 v18 v20 v22 v23 v34 v35 v41 k (window acc (k0_off1 v22 v41 k) S128x128.size (k0_off1_inb v22 v41 hw k)))

/-- The denominators after one more trip. -/
def denStep (k : Fin (k0_t1_loop v22 v41).trips) (acc : Vec F S10000x1 .f32) : Vec F S10000x1 .f32 :=
  put acc (k0_off2 v22 v41 k) S128x1.size
    (k0_pay4 v10 v20 v22 v23 v34 v35 v41 k (window acc (k0_off2 v22 v41 k) S128x1.size (k0_off2_inb v22 v41 hw k)))

/-- The output accumulator after the first `n` trips. -/
def outAfter (acc : Vec F S10000x128 .f32) : ℕ → Vec F S10000x128 .f32
  | 0 => acc
  | n + 1 => if h : n < (k0_t1_loop v22 v41).trips
      then outStep v18 v20 v22 v23 v34 v35 v41 hw ⟨n, h⟩ (outAfter acc n) else outAfter acc n

/-- The denominators after the first `n` trips. -/
def denAfter (acc : Vec F S10000x1 .f32) : ℕ → Vec F S10000x1 .f32
  | 0 => acc
  | n + 1 => if h : n < (k0_t1_loop v22 v41).trips
      then denStep v10 v20 v22 v23 v34 v35 v41 hw ⟨n, h⟩ (denAfter acc n) else denAfter acc n

variable {arg7 : Memref sig .tc .vmem S10000x128 .f32} {arg8 : Memref sig .tc .vmem S10000x1 .f32}

/-- The output's buffer after the first `n` trips: each trip's store over what was there. -/
def outBuf (f : arg7.view.ty.Contents (Elt F)) : ℕ → arg7.view.ty.Contents (Elt F)
  | 0 => f
  | n + 1 => if h : n < (k0_t1_loop v22 v41).trips
      then arg7.view.writes (Elt F) (outBuf f n)
        [⟨Rect.unit (s := S10000x128) (k0_off1 v22 v41 ⟨n, h⟩) S128x128.size (k0_off1_inb v22 v41 hw ⟨n, h⟩),
          k0_pay3 v18 v20 v22 v23 v34 v35 v41 ⟨n, h⟩ (arg7.view.readAt (Elt F)
            (Rect.unit (s := S10000x128) (k0_off1 v22 v41 ⟨n, h⟩) S128x128.size (k0_off1_inb v22 v41 hw ⟨n, h⟩)).toLoadRect (outBuf f n))⟩]
      else outBuf f n

/-- The denominators' buffer after the first `n` trips. -/
def denBuf (f : arg8.view.ty.Contents (Elt F)) : ℕ → arg8.view.ty.Contents (Elt F)
  | 0 => f
  | n + 1 => if h : n < (k0_t1_loop v22 v41).trips
      then arg8.view.writes (Elt F) (denBuf f n)
        [⟨Rect.unit (s := S10000x1) (k0_off2 v22 v41 ⟨n, h⟩) S128x1.size (k0_off2_inb v22 v41 hw ⟨n, h⟩),
          k0_pay4 v10 v20 v22 v23 v34 v35 v41 ⟨n, h⟩ (arg8.view.readAt (Elt F)
            (Rect.unit (s := S10000x1) (k0_off2 v22 v41 ⟨n, h⟩) S128x1.size (k0_off2_inb v22 v41 hw ⟨n, h⟩)).toLoadRect (denBuf f n))⟩]
      else denBuf f n

theorem read_outBuf (f : arg7.view.ty.Contents (Elt F)) (n : ℕ) :
    arg7.view.read (Elt F) (outBuf v18 v20 v22 v23 v34 v35 v41 hw f n)
      = outAfter v18 v20 v22 v23 v34 v35 v41 hw (arg7.view.read (Elt F) f) n := by
  induction n with
  | zero => rfl
  | succ n ih =>
    unfold outBuf outAfter
    split
    · rename_i h
      rw [View.read_writes_cons_put _ _ _ _ _ rfl, View.writes_nil, View.readAt_unit _ _ _ rfl (k0_off1_inb v22 v41 hw ⟨n, h⟩), ih]
      rfl
    · exact ih

theorem read_denBuf (f : arg8.view.ty.Contents (Elt F)) (n : ℕ) :
    arg8.view.read (Elt F) (denBuf v10 v20 v22 v23 v34 v35 v41 hw f n)
      = denAfter v10 v20 v22 v23 v34 v35 v41 hw (arg8.view.read (Elt F) f) n := by
  induction n with
  | zero => rfl
  | succ n ih =>
    unfold denBuf denAfter
    split
    · rename_i h
      rw [View.read_writes_cons_put _ _ _ _ _ rfl, View.writes_nil, View.readAt_unit _ _ _ rfl (k0_off2_inb v22 v41 hw ⟨n, h⟩), ih]
      rfl
    · exact ih

end Values

section Invariant

variable (c : Dev nD) (E : Set ℕ) (i : grid0.Coords) (arg1 : Memref sig .tc .vmem S1x1x2560 .i32) (harg1 : arg1.IsWhole)
  (arg2 : Memref sig .tc .vmem S2560x128 .f32) (harg2 : arg2.IsWhole) (arg3 : Memref sig .tc .vmem S128x1 .f32) (harg3 : arg3.IsWhole)
  (arg4 : Memref sig .tc .vmem S1x1 .f32) (harg4 : arg4.IsWhole) (arg5 : Memref sig .tc .vmem S128x128 .f32) (harg5 : arg5.IsWhole)
  (arg6 : Memref sig .tc .vmem S1x128 .f32) (harg6 : arg6.IsWhole) (arg7 : Memref sig .tc .vmem S10000x128 .f32) (harg7 : arg7.IsWhole)
  (arg8 : Memref sig .tc .vmem S10000x1 .f32) (harg8 : arg8.IsWhole)
  (v10 : FVec F S2560x1 .f32) (v18 : FVec F S2560x128 .f32) (v20 : IVec S2560 32)
  (v22 v23 : BitVec 32) (v34 : BitVec 1) (v35 v41 : BitVec 32) (hw : k0_chk1 v22 v41)

/-- Before trip `n` the two buffers hold what the trips before it left. -/
def inv (f7 : Buf (Elt F) (arg7.view.loc (c : Thread nD τ))) (f8 : Buf (Elt F) (arg8.view.loc (c : Thread nD τ))) (n : ℕ) : sProp 𝕄 :=
  iprop((∃ g, (arg7.view.loc (c : Thread nD τ) ↦[arg7.view.set]{fullShare} g)
        ∗ ⌜g = outBuf (arg7 := arg7) v18 v20 v22 v23 v34 v35 v41 hw f7 n⌝)
      ∗ (∃ g, (arg8.view.loc (c : Thread nD τ) ↦[arg8.view.set]{fullShare} g)
        ∗ ⌜g = denBuf (arg8 := arg8) v10 v20 v22 v23 v34 v35 v41 hw f8 n⌝))

set_option maxHeartbeats 1000000 in
/-- One trip keeps it. -/
theorem step (f7 : Buf (Elt F) (arg7.view.loc (c : Thread nD τ))) (f8 : Buf (Elt F) (arg8.view.loc (c : Thread nD τ)))
    (k : Fin (k0_t1_loop v22 v41).trips) (acc : Unit) :
    inv c arg7 arg8 v10 v18 v20 v22 v23 v34 v35 v41 hw f7 f8 k.val
      ⊢ wp frame (wpE (defs₀ (F := F)) Variants.none c none) E
        (k0_t1_body i arg1 harg1 arg2 harg2 arg3 harg3 arg4 harg4 arg5 harg5 arg6 harg6 arg7 harg7 arg8 harg8 v10 v18 v20 v22 v23 v34 v35 v41 hw k acc)
        (fun _ => inv c arg7 arg8 v10 v18 v20 v22 v23 v34 v35 v41 hw f7 f8 (k.val + 1)) := by
  unfold inv k0_t1_body
  iintro ⟨⟨%g7, H7, %h7⟩, ⟨%g8, H8, %h8⟩⟩
  subst h7 h8
  sl_exec
  sl_step
  isplitl [H7]
  · iexists _; isplitl [H7]; · iexact H7
    ipureintro
    rw [outBuf, dif_pos k.isLt]
  · iexists _; isplitl [H8]; · iexact H8
    ipureintro
    rw [denBuf, dif_pos k.isLt]

set_option warn.classDefReducibility false in
/-- The chunk loop's invariant, over the two buffers' contents at entry. -/
@[sl_loop] def loopInv (f7 : Buf (Elt F) (arg7.view.loc (c : Thread nD τ))) (f8 : Buf (Elt F) (arg8.view.loc (c : Thread nD τ))) :
    LoopInv (M := 𝕄) frame (wpE (defs₀ (F := F)) Variants.none c none) E (k0_t1_loop v22 v41).lb (k0_t1_loop v22 v41).ub
      (k0_t1_loop v22 v41).st (k0_t1_ok v22 v41 hw) ()
      (k0_t1_body i arg1 harg1 arg2 harg2 arg3 harg3 arg4 harg4 arg5 harg5 arg6 harg6 arg7 harg7 arg8 harg8 v10 v18 v20 v22 v23 v34 v35 v41 hw) where
  inv n _ := inv c arg7 arg8 v10 v18 v20 v22 v23 v34 v35 v41 hw f7 f8 n
  step k acc := step c E i arg1 harg1 arg2 harg2 arg3 harg3 arg4 harg4 arg5 harg5 arg6 harg6 arg7 harg7 arg8 harg8
    v10 v18 v20 v22 v23 v34 v35 v41 hw f7 f8 k acc

end Invariant

end Cert.KernelIdeal.Trips

end
-- ==== Proof.KernelIdeal.Body.lean ====
/- What the kernel body does at one grid point.

   The body reads its block of rows and the weights, computes each row's exponential and weighted message, and adds
   them, chunk by chunk, into the output accumulator and the denominators. The first point starts from zeros, the
   last one divides. `outBlock` and `denBlock` are what the block adds onto given accumulators; the three theorems say
   the body leaves that, at the first point, between, and at the last. -/
module

public import proofs.«01_k».proof.Proof.KernelIdeal.Trips
public import proofs.«01_k».proof.Proof.Gen.KernelIdeal.Frame

@[expose] public section

set_option maxRecDepth 16384

noncomputable section

namespace Cert.KernelIdeal.Body

open Cert.KernelIdeal Cert.KernelIdeal.Gen Cert.KernelIdeal.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first and the last segment number of a block. -/
abbrev firstSeg (x1 : Vec F S1x1x2560 .i32) : BitVec 32 := extractAt ![0] (k0_pay14 x1) inpos_S1_p0
abbrev lastSeg (x1 : Vec F S1x1x2560 .i32) : BitVec 32 := extractAt ![0] (k0_pay1 (k0_pay13 x1)) inpos_S1_p0

/-- The sign bit and the remainder of the program's division of the first number by 128. -/
abbrev signWord (v22 : BitVec 32) : BitVec 1 :=
  Scalar.cmpi .ne
    (Scalar.subi (Scalar.extui (Scalar.cmpi .sgt v22 0#32)) (Scalar.extui (Scalar.cmpi .slt v22 0#32)))
    (Scalar.subi (Scalar.extui (Scalar.cmpi .sgt 128#32 0#32)) (Scalar.extui (Scalar.cmpi .slt 128#32 0#32)))

section Block

variable (x1 : Vec F S1x1x2560 .i32) (x2 : Vec F S2560x128 .f32) (x3 : Vec F S128x1 .f32) (x4 : Vec F S1x1 .f32)
  (x5 : Vec F S128x128 .f32) (x6 : Vec F S1x128 .f32) (hw : k0_chk1 (firstSeg x1) (lastSeg x1))

/-- The output accumulator `acc` after the block. -/
def outBlock (acc : Vec F S10000x128 .f32) : Vec F S10000x128 .f32 :=
  outAfter (k0_pay12 x2 x3 x4 x5 x6) (k0_pay13 x1) (firstSeg x1) (Scalar.divsi (firstSeg x1) 128#32) (signWord (firstSeg x1))
    (Scalar.remsi (firstSeg x1) 128#32) (lastSeg x1) hw acc (k0_t1_loop (firstSeg x1) (lastSeg x1)).trips

/-- The denominators `acc` after the block. -/
def denBlock (acc : Vec F S10000x1 .f32) : Vec F S10000x1 .f32 :=
  denAfter (k0_pay11 x2 x3 x4) (k0_pay13 x1) (firstSeg x1) (Scalar.divsi (firstSeg x1) 128#32) (signWord (firstSeg x1))
    (Scalar.remsi (firstSeg x1) 128#32) (lastSeg x1) hw acc (k0_t1_loop (firstSeg x1) (lastSeg x1)).trips

end Block

/-- The body zeroes its accumulators at this point. -/
abbrev isFirst (i : grid0.Coords) : Prop :=
  Scalar.cmpi .ne (Scalar.extui (Scalar.cmpi .eq (BitVec.ofNat 32 (i 0).val) 0#32)) 0#32 = 1#1
/-- The body divides at this point. -/
abbrev isLast (i : grid0.Coords) : Prop :=
  Scalar.cmpi .ne (Scalar.extui (Scalar.cmpi .eq (BitVec.ofNat 32 (i 0).val) 124#32)) 0#32 = 1#1

theorem isFirst_iff (t : Fin cfg0.N) : isFirst (grid0.coords t) ↔ t.val = 0 := by
  have ht : t.val < 125 := Nat.lt_of_lt_of_eq t.isLt N_0
  have e0 : (grid0.coords t 0).val = t.val / 1 % 125 := Pipeline.Grid.coords_val t 0 (by decide) rfl
  simp only [isFirst, e0]
  word_cmp

theorem isLast_iff (t : Fin cfg0.N) : isLast (grid0.coords t) ↔ t.val = 124 := by
  have ht : t.val < 125 := Nat.lt_of_lt_of_eq t.isLt N_0
  have e0 : (grid0.coords t 0).val = t.val / 1 % 125 := Pipeline.Grid.coords_val t 0 (by decide) rfl
  simp only [isLast, e0]
  word_cmp

section Runs

variable (c : Dev nD) (i : grid0.Coords) (arg1 : Memref sig .tc .vmem S1x1x2560 .i32) (harg1 : arg1.IsWhole)
  (arg2 : Memref sig .tc .vmem S2560x128 .f32) (harg2 : arg2.IsWhole) (arg3 : Memref sig .tc .vmem S128x1 .f32) (harg3 : arg3.IsWhole)
  (arg4 : Memref sig .tc .vmem S1x1 .f32) (harg4 : arg4.IsWhole) (arg5 : Memref sig .tc .vmem S128x128 .f32) (harg5 : arg5.IsWhole)
  (arg6 : Memref sig .tc .vmem S1x128 .f32) (harg6 : arg6.IsWhole) (arg7 : Memref sig .tc .vmem S10000x128 .f32) (harg7 : arg7.IsWhole)
  (arg8 : Memref sig .tc .vmem S10000x1 .f32) (harg8 : arg8.IsWhole)
  (x1 : Vec F S1x1x2560 .i32) (x2 : Vec F S2560x128 .f32) (x3 : Vec F S128x1 .f32) (x4 : Vec F S1x1 .f32)
  (x5 : Vec F S128x128 .f32) (x6 : Vec F S1x128 .f32) (hw : k0_chk1 (firstSeg x1) (lastSeg x1))

/-- The six input buffers, each at its block. -/
abbrev inputs : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6)

set_option maxHeartbeats 4000000 in
/-- Between the first point and the last the body adds its block onto both accumulators. -/
theorem run_mid (hc0 : ¬isFirst i) (hc1 : ¬isLast i) (o : Vec F S10000x128 .f32) (d : Vec F S10000x1 .f32) (E : Set ℕ) (K : PUnit → sProp 𝕄) :
    iprop(inputs c arg1 arg2 arg3 arg4 arg5 arg6 x1 x2 x3 x4 x5 x6 ∗ owns (c : Thread nD τ) arg7 fullShare o ∗ owns (c : Thread nD τ) arg8 fullShare d
        ∗ (iprop(inputs c arg1 arg2 arg3 arg4 arg5 arg6 x1 x2 x3 x4 x5 x6
            ∗ owns (c : Thread nD τ) arg7 fullShare (outBlock x1 x2 x3 x4 x5 x6 hw o)
            ∗ owns (c : Thread nD τ) arg8 fullShare (denBlock x1 x2 x3 x4 hw d)) -∗ K ⟨⟩))
      ⊢ wp frame (wpE (defs₀ (F := F)) Variants.none c none) E
          (cc0__attn_pool_kernel i arg1 harg1 arg2 harg2 arg3 harg3 arg4 harg4 arg5 harg5 arg6 harg6 arg7 harg7 arg8 harg8) K := by
  simp only [cc0__attn_pool_kernel_eq_skeleton]; unfold cc0__attn_pool_kernel_skel
  simp only [k0_part1_eq_skeleton]; unfold k0_part1_skel
  unfold inputs owns
  iintro ⟨⟨⟨%f1, %h1, H1⟩, ⟨%f2, %h2, H2⟩, ⟨%f3, %h3, H3⟩, ⟨%f4, %h4, H4⟩, ⟨%f5, %h5, H5⟩, ⟨%f6, %h6, H6⟩⟩, ⟨%f7, %h7, H7⟩, ⟨%f8, %h8, H8⟩, Hk⟩
  have e1 := (View.readAt_full arg1.view f1 inb_S1x1x2560_S1x1x2560_0_0_0).trans h1
  have e2 := (View.readAt_full arg2.view f2 inb_S2560x128_S2560x128_0_0).trans h2
  have e3 := (View.readAt_full arg3.view f3 inb_S128x1_S128x1_0_0).trans h3
  have e4 := (View.readAt_full arg4.view f4 inb_S1x1_S1x1_0_0).trans h4
  have e5 := (View.readAt_full arg5.view f5 inb_S128x128_S128x128_0_0).trans h5
  have e6 := (View.readAt_full arg6.view f6 inb_S1x128_S1x128_0_0).trans h6
  have htr := Words.trips2 (firstSeg x1) (lastSeg x1)
  sl_exec (disch := first | sl_exact hc0 | sl_exact hc1 | sl_exact hw)
  sl_step
  iapply Hk
  isplitl [H1 H2 H3 H4 H5 H6]
  · isplitl [H1]; · iexists _; isplitr; · ipureintro; exact h1
                    iexact H1
    isplitl [H2]; · iexists _; isplitr; · ipureintro; exact h2
                    iexact H2
    isplitl [H3]; · iexists _; isplitr; · ipureintro; exact h3
                    iexact H3
    isplitl [H4]; · iexists _; isplitr; · ipureintro; exact h4
                    iexact H4
    isplitl [H5]; · iexists _; isplitr; · ipureintro; exact h5
                    iexact H5
    iexists _; isplitr; · ipureintro; exact h6
    iexact H6
  isplitl [H7]
  · iexists _; isplitr
    · ipureintro; exact (read_outBuf _ _ _ _ _ _ _ hw f7 _).trans (by rw [h7]; rfl)
    iexact H7
  iexists _; isplitr
  · ipureintro; exact (read_denBuf _ _ _ _ _ _ _ hw f8 _).trans (by rw [h8]; rfl)
  iexact H8

set_option maxHeartbeats 4000000 in
/-- At the first point it adds its block onto zeros. -/
theorem run_first (hc0 : isFirst i) (hc1 : ¬isLast i) (o : Vec F S10000x128 .f32) (d : Vec F S10000x1 .f32) (E : Set ℕ) (K : PUnit → sProp 𝕄) :
    iprop(inputs c arg1 arg2 arg3 arg4 arg5 arg6 x1 x2 x3 x4 x5 x6 ∗ owns (c : Thread nD τ) arg7 fullShare o ∗ owns (c : Thread nD τ) arg8 fullShare d
        ∗ (iprop(inputs c arg1 arg2 arg3 arg4 arg5 arg6 x1 x2 x3 x4 x5 x6
            ∗ owns (c : Thread nD τ) arg7 fullShare (outBlock x1 x2 x3 x4 x5 x6 hw k0_pay9)
            ∗ owns (c : Thread nD τ) arg8 fullShare (denBlock x1 x2 x3 x4 hw k0_pay10)) -∗ K ⟨⟩))
      ⊢ wp frame (wpE (defs₀ (F := F)) Variants.none c none) E
          (cc0__attn_pool_kernel i arg1 harg1 arg2 harg2 arg3 harg3 arg4 harg4 arg5 harg5 arg6 harg6 arg7 harg7 arg8 harg8) K := by
  simp only [cc0__attn_pool_kernel_eq_skeleton]; unfold cc0__attn_pool_kernel_skel
  simp only [k0_part1_eq_skeleton]; unfold k0_part1_skel
  unfold inputs owns
  iintro ⟨⟨⟨%f1, %h1, H1⟩, ⟨%f2, %h2, H2⟩, ⟨%f3, %h3, H3⟩, ⟨%f4, %h4, H4⟩, ⟨%f5, %h5, H5⟩, ⟨%f6, %h6, H6⟩⟩, ⟨%f7, %h7, H7⟩, ⟨%f8, %h8, H8⟩, Hk⟩
  have e1 := (View.readAt_full arg1.view f1 inb_S1x1x2560_S1x1x2560_0_0_0).trans h1
  have e2 := (View.readAt_full arg2.view f2 inb_S2560x128_S2560x128_0_0).trans h2
  have e3 := (View.readAt_full arg3.view f3 inb_S128x1_S128x1_0_0).trans h3
  have e4 := (View.readAt_full arg4.view f4 inb_S1x1_S1x1_0_0).trans h4
  have e5 := (View.readAt_full arg5.view f5 inb_S128x128_S128x128_0_0).trans h5
  have e6 := (View.readAt_full arg6.view f6 inb_S1x128_S1x128_0_0).trans h6
  have htr := Words.trips2 (firstSeg x1) (lastSeg x1)
  sl_exec (disch := first | sl_exact hc0 | sl_exact hc1 | sl_exact hw)
  sl_step
  iapply Hk
  isplitl [H1 H2 H3 H4 H5 H6]
  · isplitl [H1]; · iexists _; isplitr; · ipureintro; exact h1
                    iexact H1
    isplitl [H2]; · iexists _; isplitr; · ipureintro; exact h2
                    iexact H2
    isplitl [H3]; · iexists _; isplitr; · ipureintro; exact h3
                    iexact H3
    isplitl [H4]; · iexists _; isplitr; · ipureintro; exact h4
                    iexact H4
    isplitl [H5]; · iexists _; isplitr; · ipureintro; exact h5
                    iexact H5
    iexists _; isplitr; · ipureintro; exact h6
    iexact H6
  isplitl [H7]
  · iexists _; isplitr
    swap; · iexact H7
    ipureintro
    refine (read_outBuf _ _ _ _ _ _ _ hw _ _).trans ?_
    rw [← View.writes_cons, View.read_writes_full]; rfl
  iexists _; isplitr
  swap; · iexact H8
  ipureintro
  refine (read_denBuf _ _ _ _ _ _ _ hw _ _).trans ?_
  rw [← View.writes_cons, View.read_writes_full]
  rfl

set_option maxHeartbeats 4000000 in
/-- At the last point it adds its block and divides. -/
theorem run_last (hc0 : ¬isFirst i) (hc1 : isLast i) (o : Vec F S10000x128 .f32) (d : Vec F S10000x1 .f32) (E : Set ℕ) (K : PUnit → sProp 𝕄) :
    iprop(inputs c arg1 arg2 arg3 arg4 arg5 arg6 x1 x2 x3 x4 x5 x6 ∗ owns (c : Thread nD τ) arg7 fullShare o ∗ owns (c : Thread nD τ) arg8 fullShare d
        ∗ (iprop(inputs c arg1 arg2 arg3 arg4 arg5 arg6 x1 x2 x3 x4 x5 x6
            ∗ owns (c : Thread nD τ) arg7 fullShare (k0_pay8 (outBlock x1 x2 x3 x4 x5 x6 hw o) (denBlock x1 x2 x3 x4 hw d))
            ∗ owns (c : Thread nD τ) arg8 fullShare (denBlock x1 x2 x3 x4 hw d)) -∗ K ⟨⟩))
      ⊢ wp frame (wpE (defs₀ (F := F)) Variants.none c none) E
          (cc0__attn_pool_kernel i arg1 harg1 arg2 harg2 arg3 harg3 arg4 harg4 arg5 harg5 arg6 harg6 arg7 harg7 arg8 harg8) K := by
  simp only [cc0__attn_pool_kernel_eq_skeleton]; unfold cc0__attn_pool_kernel_skel
  simp only [k0_part1_eq_skeleton]; unfold k0_part1_skel
  unfold inputs owns
  iintro ⟨⟨⟨%f1, %h1, H1⟩, ⟨%f2, %h2, H2⟩, ⟨%f3, %h3, H3⟩, ⟨%f4, %h4, H4⟩, ⟨%f5, %h5, H5⟩, ⟨%f6, %h6, H6⟩⟩, ⟨%f7, %h7, H7⟩, ⟨%f8, %h8, H8⟩, Hk⟩
  have e1 := (View.readAt_full arg1.view f1 inb_S1x1x2560_S1x1x2560_0_0_0).trans h1
  have e2 := (View.readAt_full arg2.view f2 inb_S2560x128_S2560x128_0_0).trans h2
  have e3 := (View.readAt_full arg3.view f3 inb_S128x1_S128x1_0_0).trans h3
  have e4 := (View.readAt_full arg4.view f4 inb_S1x1_S1x1_0_0).trans h4
  have e5 := (View.readAt_full arg5.view f5 inb_S128x128_S128x128_0_0).trans h5
  have e6 := (View.readAt_full arg6.view f6 inb_S1x128_S1x128_0_0).trans h6
  have htr := Words.trips2 (firstSeg x1) (lastSeg x1)
  sl_exec (disch := first | sl_exact hc0 | sl_exact hc1 | sl_exact hw)
  sl_step
  iapply Hk
  isplitl [H1 H2 H3 H4 H5 H6]
  · isplitl [H1]; · iexists _; isplitr; · ipureintro; exact h1
                    iexact H1
    isplitl [H2]; · iexists _; isplitr; · ipureintro; exact h2
                    iexact H2
    isplitl [H3]; · iexists _; isplitr; · ipureintro; exact h3
                    iexact H3
    isplitl [H4]; · iexists _; isplitr; · ipureintro; exact h4
                    iexact H4
    isplitl [H5]; · iexists _; isplitr; · ipureintro; exact h5
                    iexact H5
    iexists _; isplitr; · ipureintro; exact h6
    iexact H6
  isplitl [H7]
  · iexists _; isplitr
    swap; · iexact H7
    ipureintro
    rw [View.read_writes_full]
    unfold run_last.sl.v68 run_last.sl.v70
    refine congrArg₂ k0_pay8 ?_ ?_
    · refine (View.readAt_full arg7.view _ inb_S10000x128_S10000x128_0_0).trans ?_
      rw [read_outBuf, h7]; rfl
    · refine (View.readAt_full arg8.view _ inb_S10000x1_S10000x1_0_0).trans ?_
      rw [read_denBuf, h8]; rfl
  iexists _; isplitr
  · ipureintro; exact (read_denBuf _ _ _ _ _ _ _ hw f8 _).trans (by rw [h8]; rfl)
  iexact H8

end Runs

end Cert.KernelIdeal.Body

end
-- ==== Proof.KernelIdeal.Launch.lean ====
/- The launch of the kernel.

   `acc` is what the output's buffer and the denominators hold after each grid point: zeros with the blocks so far added on.
   The output is written back once, at the last point, divided (`left`). From the body's three runs follows the body at any
   point, and from it the run of the whole program. -/
module

public import proofs.«01_k».proof.Proof.KernelIdeal.Body
public import Idealize.ShloMosaic.Lib.Claim
public import Idealize.ShloMosaic.Lib.Pipeline.Value

@[expose] public section

set_option maxRecDepth 16384

noncomputable section

namespace Cert.KernelIdeal.Launch

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' buffers at a point, and the inputs' blocks. -/
abbrev ms0 (t : Fin cfg0.N) : Memref sig .tc .vmem S1x1x2560 .i32 := win0_0.stage (cfg0.slots t 0)
abbrev ms1 (t : Fin cfg0.N) : Memref sig .tc .vmem S2560x128 .f32 := win0_1.stage (cfg0.slots t 1)
abbrev ms2 (t : Fin cfg0.N) : Memref sig .tc .vmem S128x1 .f32 := win0_2.stage (cfg0.slots t 2)
abbrev ms3 (t : Fin cfg0.N) : Memref sig .tc .vmem S1x1 .f32 := win0_3.stage (cfg0.slots t 3)
abbrev ms4 (t : Fin cfg0.N) : Memref sig .tc .vmem S128x128 .f32 := win0_4.stage (cfg0.slots t 4)
abbrev ms5 (t : Fin cfg0.N) : Memref sig .tc .vmem S1x128 .f32 := win0_5.stage (cfg0.slots t 5)
abbrev ms6 (t : Fin cfg0.N) : Memref sig .tc .vmem S10000x128 .f32 := win0_6.stage (cfg0.slots t 6)
abbrev scratch : Memref sig .tc .vmem S10000x1 .f32 := Memref.whole cc0_scratch0

abbrev blk0 (c : Dev nD) (t : Fin cfg0.N) : Vec F S1x1x2560 .i32 := iblk m c 0 t
abbrev blk1 (c : Dev nD) (t : Fin cfg0.N) : Vec F S2560x128 .f32 := iblk m c 1 t
abbrev blk2 (c : Dev nD) (t : Fin cfg0.N) : Vec F S128x1 .f32 := iblk m c 2 t
abbrev blk3 (c : Dev nD) (t : Fin cfg0.N) : Vec F S1x1 .f32 := iblk m c 3 t
abbrev blk4 (c : Dev nD) (t : Fin cfg0.N) : Vec F S128x128 .f32 := iblk m c 4 t
abbrev blk5 (c : Dev nD) (t : Fin cfg0.N) : Vec F S1x128 .f32 := iblk m c 5 t

variable (hw : ∀ (c : Dev nD) (t : Fin cfg0.N), k0_chk1 (firstSeg (blk0 m c t)) (lastSeg (blk0 m c t)))

/-- The output's buffer and the denominators after point `n`, before any division. -/
def acc (c : Dev nD) : (n : ℕ) → n < cfg0.N → Vec F S10000x128 .f32 × Vec F S10000x1 .f32
  | 0, hn => (outBlock (blk0 m c ⟨0, hn⟩) (blk1 m c ⟨0, hn⟩) (blk2 m c ⟨0, hn⟩) (blk3 m c ⟨0, hn⟩) (blk4 m c ⟨0, hn⟩) (blk5 m c ⟨0, hn⟩) (hw c ⟨0, hn⟩) k0_pay9,
      denBlock (blk0 m c ⟨0, hn⟩) (blk1 m c ⟨0, hn⟩) (blk2 m c ⟨0, hn⟩) (blk3 m c ⟨0, hn⟩) (hw c ⟨0, hn⟩) k0_pay10)
  | n + 1, hn => (outBlock (blk0 m c ⟨n + 1, hn⟩) (blk1 m c ⟨n + 1, hn⟩) (blk2 m c ⟨n + 1, hn⟩) (blk3 m c ⟨n + 1, hn⟩) (blk4 m c ⟨n + 1, hn⟩) (blk5 m c ⟨n + 1, hn⟩) (hw c ⟨n + 1, hn⟩) (acc c n (Nat.lt_of_succ_lt hn)).1,
      denBlock (blk0 m c ⟨n + 1, hn⟩) (blk1 m c ⟨n + 1, hn⟩) (blk2 m c ⟨n + 1, hn⟩) (blk3 m c ⟨n + 1, hn⟩) (hw c ⟨n + 1, hn⟩) (acc c n (Nat.lt_of_succ_lt hn)).2)

theorem acc_zero (c : Dev nD) (t : Fin cfg0.N) (hz : t.val = 0) :
    acc m hw c t.val t.isLt = (outBlock (blk0 m c t) (blk1 m c t) (blk2 m c t) (blk3 m c t) (blk4 m c t) (blk5 m c t) (hw c t) k0_pay9, denBlock (blk0 m c t) (blk1 m c t) (blk2 m c t) (blk3 m c t) (hw c t) k0_pay10) := by
  obtain ⟨n, hn⟩ := t; subst hz; rfl

theorem acc_pos (c : Dev nD) (t : Fin cfg0.N) (hz : t.val ≠ 0) :
    acc m hw c t.val t.isLt
      = (outBlock (blk0 m c t) (blk1 m c t) (blk2 m c t) (blk3 m c t) (blk4 m c t) (blk5 m c t) (hw c t) (acc m hw c (t.val - 1) (Nat.lt_of_le_of_lt (Nat.sub_le _ _) t.isLt)).1,
        denBlock (blk0 m c t) (blk1 m c t) (blk2 m c t) (blk3 m c t) (hw c t) (acc m hw c (t.val - 1) (Nat.lt_of_le_of_lt (Nat.sub_le _ _) t.isLt)).2) := by
  obtain ⟨n, hn⟩ := t
  cases n with
  | zero => exact absurd rfl hz
  | succ n => rfl

/-- What the body leaves in the output's buffer: the accumulator, and at the last point its quotient. -/
def left (c : Dev nD) (n : ℕ) (hn : n < cfg0.N) : Vec F S10000x128 .f32 :=
  if n = 124 then k0_pay8 (acc m hw c n hn).1 (acc m hw c n hn).2 else (acc m hw c n hn).1

theorem left_zero (c : Dev nD) (t : Fin cfg0.N) (hz : t.val = 0) :
    left m hw c t.val t.isLt = outBlock (blk0 m c t) (blk1 m c t) (blk2 m c t) (blk3 m c t) (blk4 m c t) (blk5 m c t) (hw c t) k0_pay9 := by
  rw [left, if_neg (by omega), acc_zero m hw c t hz]

theorem left_mid (c : Dev nD) (t : Fin cfg0.N) (hz : t.val ≠ 0) (hl : t.val ≠ 124) :
    left m hw c t.val t.isLt
      = outBlock (blk0 m c t) (blk1 m c t) (blk2 m c t) (blk3 m c t) (blk4 m c t) (blk5 m c t) (hw c t) (acc m hw c (t.val - 1) (Nat.lt_of_le_of_lt (Nat.sub_le _ _) t.isLt)).1 := by
  rw [left, if_neg hl, acc_pos m hw c t hz]

theorem left_last (c : Dev nD) (t : Fin cfg0.N) (hl : t.val = 124) :
    left m hw c t.val t.isLt
      = k0_pay8 (outBlock (blk0 m c t) (blk1 m c t) (blk2 m c t) (blk3 m c t) (blk4 m c t) (blk5 m c t) (hw c t) (acc m hw c (t.val - 1) (Nat.lt_of_le_of_lt (Nat.sub_le _ _) t.isLt)).1)
        (denBlock (blk0 m c t) (blk1 m c t) (blk2 m c t) (blk3 m c t) (hw c t) (acc m hw c (t.val - 1) (Nat.lt_of_le_of_lt (Nat.sub_le _ _) t.isLt)).2) := by
  rw [left, if_pos hl, acc_pos m hw c t (by omega)]

/-! ## The invariant between points -/

theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- Before the first point the denominators hold anything, afterwards what the point before left. -/
def Phi (c : Dev nD) : (n : ℕ) → n ≤ cfg0.N → sProp 𝕄
  | 0, _ => Pipeline.ΦA spec0 c
  | n + 1, hn => iprop(iprop(owns (c : Thread nD τ) scratch fullShare (acc m hw c n hn).2) ∗ (∃ r, prngReg c r))

theorem Phi_zero (c : Dev nD) (n : ℕ) (h : n ≤ cfg0.N) (hz : n = 0) : Phi m hw c n h = Pipeline.ΦA spec0 c := by
  subst hz; rfl

theorem Phi_succ (c : Dev nD) (n : ℕ) (hn : n < cfg0.N) :
    Phi m hw c (n + 1) hn = iprop(iprop(owns (c : Thread nD τ) scratch fullShare (acc m hw c n hn).2) ∗ (∃ r, prngReg c r)) := rfl

theorem Phi_pos (c : Dev nD) (n : ℕ) (h : n ≤ cfg0.N) (hz : n ≠ 0) :
    Phi m hw c n h = iprop(iprop(owns (c : Thread nD τ) scratch fullShare (acc m hw c (n - 1) (by omega)).2) ∗ (∃ r, prngReg c r)) := by
  cases n with
  | zero => exact absurd rfl hz
  | succ n => rfl

/-! ## The proof data -/

/-- The arrays as the region finds them, the inputs' buffers left at their blocks, the output's at `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left m hw c t.val t.isLt
  Φ t := Phi m hw c t.val (Nat.le_of_lt_succ t.isLt)
  q _ := fullShare
  owed _ := 0

theorem A_eq (c : Dev nD) (w : Fin cfg0.W) : (dats m hw 0 c).A w = V m c (Pipeline.arrRef spec0 w) := by
  dsimp only [dats]

theorem Phi_castSucc (c : Dev nD) (t : Fin cfg0.N) :
    (dats m hw 0 c).Φ t.castSucc = Phi m hw c t.val (Nat.le_of_lt t.isLt) := by
  dsimp only [dats]; exact Pipeline.Dat.Φ_castSucc (Phi m hw c) t

theorem after0 (c : Dev nD) (t : Fin cfg0.N) : (dats m hw 0 c).after 0 t = iblk m c 0 t := by dsimp only [dats]
theorem after1 (c : Dev nD) (t : Fin cfg0.N) : (dats m hw 0 c).after 1 t = iblk m c 1 t := by dsimp only [dats]
theorem after2 (c : Dev nD) (t : Fin cfg0.N) : (dats m hw 0 c).after 2 t = iblk m c 2 t := by dsimp only [dats]
theorem after3 (c : Dev nD) (t : Fin cfg0.N) : (dats m hw 0 c).after 3 t = iblk m c 3 t := by dsimp only [dats]
theorem after4 (c : Dev nD) (t : Fin cfg0.N) : (dats m hw 0 c).after 4 t = iblk m c 4 t := by dsimp only [dats]
theorem after5 (c : Dev nD) (t : Fin cfg0.N) : (dats m hw 0 c).after 5 t = iblk m c 5 t := by dsimp only [dats]
theorem after6 (c : Dev nD) (t : Fin cfg0.N) : (dats m hw 0 c).after 6 t = left m hw c t.val t.isLt := by dsimp only [dats]

theorem before0 (c : Dev nD) (t : Fin cfg0.N) (d) : (dats m hw 0 c).before 0 t d = iblk m c 0 t :=
  before0_0_of m (dats m hw 0 c) (A_eq m hw c 0) (after0 m hw c) t d
theorem before1 (c : Dev nD) (t : Fin cfg0.N) (d) : (dats m hw 0 c).before 1 t d = iblk m c 1 t :=
  before0_1_of m (dats m hw 0 c) (A_eq m hw c 1) (after1 m hw c) t d
theorem before2 (c : Dev nD) (t : Fin cfg0.N) (d) : (dats m hw 0 c).before 2 t d = iblk m c 2 t :=
  before0_2_of m (dats m hw 0 c) (A_eq m hw c 2) (after2 m hw c) t d
theorem before3 (c : Dev nD) (t : Fin cfg0.N) (d) : (dats m hw 0 c).before 3 t d = iblk m c 3 t :=
  before0_3_of m (dats m hw 0 c) (A_eq m hw c 3) (after3 m hw c) t d
theorem before4 (c : Dev nD) (t : Fin cfg0.N) (d) : (dats m hw 0 c).before 4 t d = iblk m c 4 t :=
  before0_4_of m (dats m hw 0 c) (A_eq m hw c 4) (after4 m hw c) t d
theorem before5 (c : Dev nD) (t : Fin cfg0.N) (d) : (dats m hw 0 c).before 5 t d = iblk m c 5 t :=
  before0_5_of m (dats m hw 0 c) (A_eq m hw c 5) (after5 m hw c) t d
/-- After the first point the output's buffer holds the accumulator the point before left. -/
theorem before6 (c : Dev nD) (t : Fin cfg0.N) (hz : t.val ≠ 0) (d) :
    (dats m hw 0 c).before 6 t d = (acc m hw c (t.val - 1) (Nat.lt_of_le_of_lt (Nat.sub_le _ _) t.isLt)).1 := by
  have hN : t.val < 125 := lt_of_lt_of_eq t.isLt (show cfg0.N = 125 from N_0)
  rw [Dat.before_out_kept _ 6 rfl t (by omega) (Bool.eq_false_iff.mpr fun h => by have := (flush0_6 _).mp h; dsimp only at this; omega)
    (fun _ => rfl) (fun _ _ => rfl)]
  dsimp only [dats]
  rw [left, if_neg (by omega)]

/-! ## The body at any point -/

/-- What the body is given at point `t`, -/
def bodyPre (c : Dev nD) (t : Fin cfg0.N) : sProp 𝕄 :=
  iprop((dats m hw 0 c).Φ t.castSucc ∗ (dats m hw 0 c).owesAt () t.castSucc
    ∗ (∃ d, owns (c : Thread nD τ) (ms0 t) fullShare ((dats m hw 0 c).before 0 t d))
    ∗ (∃ d, owns (c : Thread nD τ) (ms1 t) fullShare ((dats m hw 0 c).before 1 t d))
    ∗ (∃ d, owns (c : Thread nD τ) (ms2 t) fullShare ((dats m hw 0 c).before 2 t d))
    ∗ (∃ d, owns (c : Thread nD τ) (ms3 t) fullShare ((dats m hw 0 c).before 3 t d))
    ∗ (∃ d, owns (c : Thread nD τ) (ms4 t) fullShare ((dats m hw 0 c).before 4 t d))
    ∗ (∃ d, owns (c : Thread nD τ) (ms5 t) fullShare ((dats m hw 0 c).before 5 t d))
    ∗ (∃ d, owns (c : Thread nD τ) (ms6 t) fullShare ((dats m hw 0 c).before 6 t d)))

/-- and what it gives back. -/
def bodyPost (c : Dev nD) (t : Fin cfg0.N) : sProp 𝕄 :=
  iprop((dats m hw 0 c).Φ t.succ ∗ (dats m hw 0 c).owesAt () t.succ
    ∗ owns (c : Thread nD τ) (ms0 t) fullShare ((dats m hw 0 c).after 0 t)
    ∗ owns (c : Thread nD τ) (ms1 t) fullShare ((dats m hw 0 c).after 1 t)
    ∗ owns (c : Thread nD τ) (ms2 t) fullShare ((dats m hw 0 c).after 2 t)
    ∗ owns (c : Thread nD τ) (ms3 t) fullShare ((dats m hw 0 c).after 3 t)
    ∗ owns (c : Thread nD τ) (ms4 t) fullShare ((dats m hw 0 c).after 4 t)
    ∗ owns (c : Thread nD τ) (ms5 t) fullShare ((dats m hw 0 c).after 5 t)
    ∗ owns (c : Thread nD τ) (ms6 t) fullShare ((dats m hw 0 c).after 6 t))

set_option maxHeartbeats 4800000 in
theorem sound_body (c : Dev nD) (t : Fin cfg0.N) :
    bodyPre m hw c t ⊢ wp frame (wpE (defs₀ (F := F)) Variants.none c none) Set.univ (bodyAt0 t) (fun _ => bodyPost m hw c t) := by
  unfold bodyPre bodyPost bodyAt0
  simp only [before0, before1, before2, before3, before4, before5]
  rw [show (dats m hw 0 c).owesAt () t.succ = (dats m hw 0 c).owesAt () t.castSucc from rfl,
    after0, after1, after2, after3, after4, after5, after6]
  rw [show (dats m hw 0 c).Φ t.succ = Phi m hw c (t.val + 1) t.isLt from rfl, Phi_succ]
  by_cases hz : t.val = 0
  · have hl : t.val ≠ 124 := by omega
    rw [Phi_castSucc m hw c t, Phi_zero m hw c _ _ hz, PhiA_eq]
    rw [acc_zero m hw c t hz, left_zero m hw c t hz]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ (blk0 m c t) (blk1 m c t) (blk2 m c t) (blk3 m c t) (blk4 m c t) (blk5 m c t) (hw c t) ((isFirst_iff t).mpr hz) (fun h => hl ((isLast_iff t).mp h)) _ _ Set.univ _)
    isplitl [H0 H1 H2 H3 H4 H5]
    · unfold inputs
      isplitl [H0]; · iexact H0
      isplitl [H1]; · iexact H1
      isplitl [H2]; · iexact H2
      isplitl [H3]; · iexact H3
      isplitl [H4]; · iexact H4
      iexact H5
    isplitl [H6]; · iexact H6
    isplitl [HS]; · iexact HS
    unfold inputs
    iintro ⟨⟨H0, H1, H2, H3, H4, H5⟩, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases hl : t.val = 124
    · rw [Phi_castSucc m hw c t, Phi_pos m hw c _ _ hz]
      rw [acc_pos m hw c t hz, left_last m hw c t hl]
      simp only [before6 m hw c t hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ (blk0 m c t) (blk1 m c t) (blk2 m c t) (blk3 m c t) (blk4 m c t) (blk5 m c t) (hw c t) (fun h => hz ((isFirst_iff t).mp h)) ((isLast_iff t).mpr hl) _ _ Set.univ _)
      isplitl [H0 H1 H2 H3 H4 H5]
      · unfold inputs
        isplitl [H0]; · iexact H0
        isplitl [H1]; · iexact H1
        isplitl [H2]; · iexact H2
        isplitl [H3]; · iexact H3
        isplitl [H4]; · iexact H4
        iexact H5
      isplitl [H6]; · iexact H6
      isplitl [HS]; · iexact HS
      unfold inputs
      iintro ⟨⟨H0, H1, H2, H3, H4, H5⟩, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Phi_castSucc m hw c t, Phi_pos m hw c _ _ hz]
      rw [acc_pos m hw c t hz, left_mid m hw c t hz hl]
      simp only [before6 m hw c t hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ (blk0 m c t) (blk1 m c t) (blk2 m c t) (blk3 m c t) (blk4 m c t) (blk5 m c t) (hw c t) (fun h => hz ((isFirst_iff t).mp h)) (fun h => hl ((isLast_iff t).mp h)) _ _ Set.univ _)
      isplitl [H0 H1 H2 H3 H4 H5]
      · unfold inputs
        isplitl [H0]; · iexact H0
        isplitl [H1]; · iexact H1
        isplitl [H2]; · iexact H2
        isplitl [H3]; · iexact H3
        isplitl [H4]; · iexact H4
        iexact H5
      isplitl [H6]; · iexact H6
      isplitl [HS]; · iexact HS
      unfold inputs
      iintro ⟨⟨H0, H1, H2, H3, H4, H5⟩, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hw 0 c) (defs₀ (F := F)) Variants.none () Set.univ := fun t => by
  rw [bigSep_W0, bigSep_W0, defs₀_row]
  exact triple_restated (sound_body m hw c t) rfl .rfl fun _ => .rfl

theorem hin (c : Dev nD) : Pipeline.ΦA spec0 c ⊢ (dats m hw 0 c).Φ 0 := by
  rw [show (dats m hw 0 c).Φ 0 = Phi m hw c 0 (Nat.zero_le _) from rfl, Phi_zero m hw c 0 _ rfl]
  try exact Idealize.SL.BI.Entails.refl _

theorem hout (c : Dev nD) : (dats m hw 0 c).Φ (Fin.last cfg0.N) ⊢ Pipeline.ΦA spec0 c := by
  have hN : cfg0.N = 125 := N_0
  rw [show (dats m hw 0 c).Φ (Fin.last cfg0.N) = Phi m hw c (Fin.last cfg0.N).val (Nat.le_of_lt_succ (Fin.last cfg0.N).isLt) from rfl,
    Phi_pos m hw c _ _ (by rw [Fin.val_last]; omega), PhiA_eq]
  iintro ⟨HS, Hg⟩
  isplitl [HS]
  · iexists _; iexact HS
  iexact Hg

/-! ## The run -/

set_option backward.isDefEq.respectTransparency.types false in
/-- Every run ends, with the arrays at what the proof data say and every semaphore at zero. -/
theorem run_quiescent : θ_run defs (onTc (τ := τ) (main (F := F))) (s₀ m ρ) (fun r => (Pipeline.FramePost cfgs (dats m hw) 0 (V m)) r ∧ r.2.sem = fun _ => 0) :=
  Pipeline.θ_run_frame_track (Q' := _) cfgs (dats m hw) (0 : Fin 1) launch0 defs₀ Variants.none m ρ main
    (hbody := fun c => (body_obligation m hw c).loose) (hshare := fun c => (dats m hw 0 c).share_full fun _ => rfl)
    (howed := fun _ _ => rfl) (V := V m) (hmain := hmain m Variants.none) (hA := A_eq m hw) (hin := hin m hw) (hout := hout m hw)

theorem run : θ_run defs (onTc (τ := τ) (main (F := F))) (s₀ m ρ) (Pipeline.FramePost cfgs (dats m hw) 0 (V m)) :=
  (θ_run defs _ _).mono (fun _ h => h.1) (run_quiescent m ρ hw)

include hw in
/-- The arguments end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m hw) (A_eq m hw) (run m ρ hw)) ((θ_run defs _ _).mono (fun _ h => h.2) (run_quiescent m ρ hw))

/-- The output array's contents after the run. -/
theorem run_out : θ_run defs (onTc (τ := τ) (main (F := F))) ⟨m, fun _ => 0, ρ⟩
    (fun r => ∀ c : Dev nD, r.2.mem ((c.tc : Thread nD τ).loc main_v3) = (dats m hw 0 c).arrAt 6 cfg0.N) :=
  (θ_run defs _ _).mono (fun _ h c => (h c).1 6) (run m ρ hw)

end Cert.KernelIdeal.Launch

end
-- ==== Proof.KernelIdeal.Blocks.lean ====
/- What the blocks hold: point `t` gets rows `2560 t … 2560 t + 2559` of the rows and of the segment numbers, and the
   weights whole. -/
module

public import proofs.«01_k».proof.Proof.KernelIdeal.Launch
public import proofs.«01_k».proof.Proof.Segments
public import Idealize.ShloMosaic.Lib.Pipeline.ValueKit

@[expose] public section

set_option maxRecDepth 16384

noncomputable section

namespace Cert.KernelIdeal.Blocks

open Cert.KernelIdeal Cert.KernelIdeal.Gen Cert.KernelIdeal.Launch Cert.Segments
open Idealize.ShloMosaic Idealize.ShloMosaic.TcCoe Idealize.ShloMosaic.Tactic

variable {F : FTy → Type} [FloatOps F]
variable (m : (ℓ : Loc nD τ sig) → Buf (Elt F) ℓ)

theorem point_lt (t : Fin cfg0.N) : t.val < 125 := Nat.lt_of_lt_of_eq t.isLt N_0

theorem row_lt (t : Fin cfg0.N) {k : ℕ} (h : k < 2560) : t.val * 2560 + k < 320000 := by
  have := point_lt t; omega

theorem coords0 (t : Fin cfg0.N) : (grid0.coords t 0).val = t.val := by
  have ht := point_lt t
  have e0 : (grid0.coords t 0).val = t.val / 1 % 125 := Pipeline.Grid.coords_val t 0 (by decide) rfl
  omega

/-- The host's reshapes, as the region finds their results. -/
theorem V_idx (c : Dev nD) : V m c main_v0 = shapeCast S125x1x2560 (m ((c : Thread nD τ).loc main_arg1)) shapeCasts_S320000_S125x1x2560 := by
  unfold V
  show StableHlo.after hostOps0 _ (Proc.devRef .tc _) = _
  after_results; rfl

theorem V_gateB (c : Dev nD) : V m c main_v1 = shapeCast S1x1 (m ((c : Thread nD τ).loc main_arg3)) shapeCasts_S1_S1x1 := by
  unfold V
  show StableHlo.after hostOps0 _ (Proc.devRef .tc _) = _
  after_results; rfl

theorem V_msgB (c : Dev nD) : V m c main_v2 = shapeCast S1x128 (m ((c : Thread nD τ).loc main_arg5)) shapeCasts_S128_S1x128 := by
  unfold V
  show StableHlo.after hostOps0 _ (Proc.devRef .tc _) = _
  after_results; rfl

/-- The block each window holds at point `t`. -/
theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])

theorem blk1_apply (c : Dev nD) (t : Fin cfg0.N) (y : S2560x128.Idx) (i : S320000x128.Idx)
    (h0 : (i 0).val = t.val * 2560 + (y 0).val) (h1 : (i 1).val = (y 1).val) :
    blk1 m c t y = m ((c : Thread nD τ).loc main_arg0) i := by
  unfold blk1 iblk
  rw [View.read_apply, cast_eq]
  refine (congrFun (V_main_arg0 m c) _).trans (congrArg _ (funext fun a => Fin.ext ?_))
  fin_cases a <;> blk_simp [index1 t]
  · exact h0.symm
  · simp [h1]

theorem blk2_apply (c : Dev nD) (t : Fin cfg0.N) (y : S128x1.Idx) : blk2 m c t y = m ((c : Thread nD τ).loc main_arg2) y := by
  unfold blk2 iblk
  rw [View.read_apply, cast_eq]
  refine (congrFun (V_main_arg2 m c) _).trans (congrArg _ (funext fun a => Fin.ext ?_))
  fin_cases a <;> blk_simp [index2 t] <;> simp

theorem blk4_apply (c : Dev nD) (t : Fin cfg0.N) (y : S128x128.Idx) : blk4 m c t y = m ((c : Thread nD τ).loc main_arg4) y := by
  unfold blk4 iblk
  rw [View.read_apply, cast_eq]
  refine (congrFun (V_main_arg4 m c) _).trans (congrArg _ (funext fun a => Fin.ext ?_))
  fin_cases a <;> blk_simp [index4 t] <;> simp

theorem one_idx (i j : S1.Idx) : i = j := funext fun a => by
  have : a = (0 : Fin 1) := Subsingleton.elim _ _
  subst this
  exact Subsingleton.elim (α := Fin 1) _ _

theorem blk3_apply (c : Dev nD) (t : Fin cfg0.N) (y : S1x1.Idx) (i : S1.Idx) : blk3 m c t y = m ((c : Thread nD τ).loc main_arg3) i := by
  unfold blk3 iblk
  rw [View.read_apply, cast_eq]
  refine (congrFun (V_gateB m c) _).trans ?_
  unfold shapeCast
  exact congrArg _ (one_idx _ _)

theorem blk5_apply (c : Dev nD) (t : Fin cfg0.N) (y : S1x128.Idx) (i : S128.Idx) (h : (i 0).val = (y 1).val) :
    blk5 m c t y = m ((c : Thread nD τ).loc main_arg5) i := by
  unfold blk5 iblk
  rw [View.read_apply, cast_eq]
  refine (congrFun (V_msgB m c) _).trans ?_
  unfold shapeCast
  congr 1
  apply Shape.reshapeEquiv_eq_of_rowMajor
  show (Shape.rowMajorPi S128.size i).val = (Shape.rowMajorPi S1x128.size _).val
  rw [Shape.rowMajorPi_succ_val, Shape.rowMajorPi_succ_val, Shape.rowMajorPi_succ_val]
  have h0 : (y 0).val < 1 := (y 0).isLt
  blk_simp [index5 t]
  simp [Fin.prod_univ_succ, Shape.rowMajorPi_zero]
  exact h

theorem blk0_apply (c : Dev nD) (t : Fin cfg0.N) (y : S1x1x2560.Idx) (h : t.val * 2560 + (y 2).val < 320000) :
    blk0 m c t y = m ((c : Thread nD τ).loc main_arg1) (rowIx (t.val * 2560 + (y 2).val) h) := by
  unfold blk0 iblk
  rw [View.read_apply, cast_eq]
  refine (congrFun (V_idx m c) _).trans ?_
  unfold shapeCast
  congr 1
  apply Shape.reshapeEquiv_eq_of_rowMajor
  show (Shape.rowMajorPi S320000.size _).val = (Shape.rowMajorPi S125x1x2560.size _).val
  rw [Shape.rowMajorPi_succ_val, Shape.rowMajorPi_succ_val, Shape.rowMajorPi_succ_val, Shape.rowMajorPi_succ_val]
  have h0 : (y 0).val < 1 := (y 0).isLt
  have h1 : (y 1).val < 1 := (y 1).isLt
  blk_simp [index0 t]
  simp [Fin.prod_univ_succ, Shape.rowMajorPi_zero]
  rfl

end Cert.KernelIdeal.Blocks

end
-- ==== Proof.KernelIdeal.Sorted.lean ====
/- What sorted segment numbers give the kernel: at every point the block's first segment number is at most its last, both
   below 10000, so the chunk loop's windows lie inside the accumulators and the whole program runs. -/
module

public import proofs.«01_k».proof.Proof.KernelIdeal.Blocks

@[expose] public section

set_option maxRecDepth 16384

noncomputable section

namespace Cert.KernelIdeal.Sorted

open Cert.KernelIdeal Cert.KernelIdeal.Gen Cert.KernelIdeal.Launch Cert.KernelIdeal.Body Cert.KernelIdeal.Blocks Cert.Segments
open Idealize.ShloMosaic Idealize.ShloMosaic.TcCoe
open Idealize.ShloMosaic.Affine (IsInt)

variable {F : FTy → Type} [FloatOps F]
variable (m : (ℓ : Loc nD τ sig) → Buf (Elt F) ℓ)

/-- The segment numbers of device `c`, and the one of row `k` of point `t`'s block. -/
def segs (c : Dev nD) : Rows.Idx → BitVec 32 := m ((c : Thread nD τ).loc main_arg1)

def seg (c : Dev nD) (t : Fin cfg0.N) (k : Fin 2560) : BitVec 32 := segs m c (rowIx (t.val * 2560 + k.val) (row_lt t k.isLt))

def blockIx (k : Fin 2560) : S1x1x2560.Idx := fun a => match a with
  | ⟨0, _⟩ => ⟨0, Nat.one_pos⟩
  | ⟨1, _⟩ => ⟨0, Nat.one_pos⟩
  | ⟨2, _⟩ => k

/-- Element `k` of the block's row of segment numbers. -/
theorem pay13_apply (c : Dev nD) (t : Fin cfg0.N) (y : S2560.Idx) (k : Fin 2560) (h : (y 0).val = k.val) :
    k0_pay13 (blk0 m c t) y = seg m c t k := by
  unfold k0_pay13 shapeCast
  rw [show Shape.reshapeEquiv _ y = blockIx k from by
    apply Shape.reshapeEquiv_eq_of_rowMajor
    show (Shape.rowMajorPi S1x1x2560.size _).val = (Shape.rowMajorPi S2560.size _).val
    rw [Shape.rowMajorPi_succ_val, Shape.rowMajorPi_succ_val, Shape.rowMajorPi_succ_val, Shape.rowMajorPi_succ_val]
    simp [Fin.prod_univ_succ, Shape.rowMajorPi_zero, h, blockIx]]
  exact blk0_apply m c t (blockIx k) (row_lt t k.isLt)

theorem first_eq (c : Dev nD) (t : Fin cfg0.N) : firstSeg (blk0 m c t) = seg m c t ⟨0, by decide⟩ := by
  unfold firstSeg k0_pay14 extractAt extractStridedSlice
  exact pay13_apply m c t _ _ rfl

theorem last_eq (c : Dev nD) (t : Fin cfg0.N) : lastSeg (blk0 m c t) = seg m c t ⟨2559, by decide⟩ := by
  unfold lastSeg k0_pay1 extractAt extractStridedSlice
  exact pay13_apply m c t _ _ rfl

theorem isInt_of_lt {x : BitVec 32} (h : x.toNat < 10000) : IsInt x x.toNat := by
  have := Words.lit x.toNat (by omega)
  rwa [BitVec.ofNat_toNat, BitVec.setWidth_eq] at this

variable (hs : ∀ c, Segments.Sorted (segs m c))
include hs

theorem seg_lt (c : Dev nD) (t : Fin cfg0.N) (k : Fin 2560) : (seg m c t k).toNat < 10000 := (hs c).lt _ _

theorem seg_mono (c : Dev nD) (t : Fin cfg0.N) {j k : Fin 2560} (h : j ≤ k) : (seg m c t j).toNat ≤ (seg m c t k).toNat :=
  (hs c).mono _ _ _ _ (by have : j.val ≤ k.val := h; omega)

theorem range (c : Dev nD) (t : Fin cfg0.N) : Words.Range (firstSeg (blk0 m c t)) (lastSeg (blk0 m c t))
    (seg m c t ⟨0, by decide⟩).toNat (seg m c t ⟨2559, by decide⟩).toNat where
  first := by rw [first_eq]; exact isInt_of_lt (seg_lt m hs c t _)
  last := by rw [last_eq]; exact isInt_of_lt (seg_lt m hs c t _)
  le := seg_mono m hs c t (by show (0 : ℕ) ≤ 2559; decide)
  lt := seg_lt m hs c t _

/-- Every window of every trip lies inside the accumulators. -/
theorem inside (c : Dev nD) (t : Fin cfg0.N) : k0_chk1 (firstSeg (blk0 m c t)) (lastSeg (blk0 m c t)) := Words.chk (range m hs c t)

end Cert.KernelIdeal.Sorted

end
-- ==== Proof.Frames.lean ====
/- The frame claims: every program runs to the end and leaves its arguments and its semaphores as they were. -/
module

public import proofs.«01_k».proof.Defs
public import proofs.«01_k».proof.Proof.Segments
public import proofs.«01_k».proof.Proof.Gen.Pre_sorted_segments
public import proofs.«01_k».proof.Proof.Gen.Pre_sorted_segments_gates_below_inf
public import proofs.«01_k».proof.Proof.Kernel.Sorted
public import proofs.«01_k».proof.Proof.KernelIdeal.Sorted
public import proofs.«01_k».proof.Proof.Gen.ReferenceIdeal.Run
public import proofs.«01_k».proof.Proof.Gen.UnshiftedIdeal.Run

@[expose] public section

noncomputable section

namespace Cert.Frames

open Idealize.ShloMosaic Idealize.SL.Sem

/-- The precondition of the printed kernel gives sorted segment numbers, on every device. -/
theorem sorted_kernel (m : (ℓ : Loc Kernel.nD Kernel.τ Kernel.sig) → Buf (Elt Bits) ℓ) (h : Pre_Kernel m) (c : Dev Kernel.nD) :
    Segments.Sorted (Kernel.Sorted.segs m c) := Segments.sorted_of_pre _ _ _ _ _ _ (h c)

theorem sorted_ideal (m : (ℓ : Loc KernelIdeal.nD KernelIdeal.τ KernelIdeal.sig) → Buf (Elt Ideal) ℓ) (h : Pre_KernelIdeal m)
    (c : Dev KernelIdeal.nD) : Segments.Sorted (KernelIdeal.Sorted.segs m c) := Segments.sorted_of_pre _ _ _ _ _ _ (h c)

theorem sorted_ideal_below (m : (ℓ : Loc KernelIdeal.nD KernelIdeal.τ KernelIdeal.sig) → Buf (Elt Ideal) ℓ)
    (h : Pre_KernelIdeal_sorted_segments_gates_below_inf m) (c : Dev KernelIdeal.nD) : Segments.Sorted (KernelIdeal.Sorted.segs m c) :=
  (Segments.of_pre _ _ _ _ _ _ (h c)).1

theorem kernel : quiescent_Kernel := fun m g h => Kernel.Launch.frame_run m g (Kernel.Sorted.inside m (sorted_kernel m h))

theorem ideal : quiescent_KernelIdeal := fun m g h =>
  KernelIdeal.Launch.frame_run m g (KernelIdeal.Sorted.inside m (sorted_ideal m h))

theorem ideal_below : quiescent_KernelIdeal_pre_sorted_segments_gates_below_inf := fun m g h =>
  KernelIdeal.Launch.frame_run m g (KernelIdeal.Sorted.inside m (sorted_ideal_below m h))

theorem reference : quiescent_ReferenceIdeal := fun m g _ =>
  (θ_run ReferenceIdeal.defs _ _).mono (fun r h => ⟨fun c => (h c).2, sem_eq_zero_of_no_sems (by decide) r.2⟩)
    (ReferenceIdeal.Value.run (F := Ideal) m g)

theorem reference_below : quiescent_ReferenceIdeal_pre_sorted_segments_gates_below_inf := fun m g _ => reference m g trivial

theorem unshifted : quiescent_UnshiftedIdeal := fun m g _ =>
  (θ_run UnshiftedIdeal.defs _ _).mono (fun r h => ⟨fun c => (h c).2, sem_eq_zero_of_no_sems (by decide) r.2⟩)
    (UnshiftedIdeal.Value.run (F := Ideal) m g)

theorem unshifted_sorted : quiescent_UnshiftedIdeal_pre_sorted_segments := fun m g _ => unshifted m g trivial

end Cert.Frames

end
-- ==== Proof.RowScatter.lean ====
/- A scatter of rows into a table by one index word each, its float sum read at an element: the sum, over the rows whose
   index is the table row, of the row's entry. -/
module

public import Idealize.ShloMosaic.Lib.Routing.OpsPair
public import Idealize.ShloMosaic.Lib.Routing.Ops
public import Idealize.ShloMosaic.PureOps.Ideal
public import Idealize.ShloMosaic.PureOps.Ideal.Laws
public import Idealize.ShloMosaic.Lib.Pointwise

@[expose] public section

noncomputable section

namespace Cert.RowScatter

open Idealize.ShloMosaic Idealize.ShloMosaic.Routing

section lands
variable {N B n : ℕ} (d : ScatterDims ⟨2, ![N, B]⟩ ⟨2, ![n, 1]⟩ ⟨2, ![n, B]⟩) (huw : d.updateWindowDims = [1])
  (hiw : d.insertedWindowDims = [0]) (hsd : d.scatterDimsToOperandDims = [0]) (hivd : d.indexVectorDim = 1)
  (idx : IVec ⟨2, ![n, 1]⟩ 32) (k : Fin n) (b : Fin B)

include hiw in
theorem window_row : d.window (ix2 k b) 0 = 0 := by
  unfold ScatterDims.window
  rw [dif_neg fun h => (of_decide_eq_true (List.mem_filter.1 h).2) (by rw [hiw]; exact List.mem_singleton.2 rfl)]

include huw hiw in
theorem window_entry : d.window (ix2 k b) 1 = b.val := by
  have h1 : (1 : Fin 2) ∈ d.sKept := List.mem_filter.2 ⟨List.mem_finRange _, decide_eq_true (by
    rw [hiw]; exact fun h => Nat.one_ne_zero (congrArg Fin.val (List.mem_singleton.1 h)))⟩
  unfold ScatterDims.window
  rw [dif_pos h1]
  have e : ∀ a : Fin 2, a ∈ d.updateWindowDims → (ix2 k b a).val = b.val := fun a ha => by
    rw [huw] at ha
    obtain rfl := List.mem_singleton.1 ha
    rfl
  exact e _ (List.getElem_mem _)

include huw hsd hivd in
theorem start_row : d.start (ix2 k b) idx 0 = (idx (ix2 k (0 : Fin 1))).toInt := by
  have hm : (0 : Fin 2) ∈ d.scatterDimsToOperandDims := by rw [hsd]; exact List.mem_singleton.2 rfl
  unfold ScatterDims.start
  rw [dif_pos hm]
  refine congrArg (fun z => (idx z).toInt) (funext fun a => Fin.ext ?_)
  match a with
  | ⟨0, _⟩ =>
    unfold ScatterDims.siIdx
    rw [dif_neg (by rw [hivd]; exact Nat.zero_ne_one)]
    unfold ScatterDims.siCoord
    simp only [Fin.val_cast]
    have e : ∀ a : Fin 2, a ∈ d.uScatter → (ix2 k b a).val = k.val := fun a ha => by
      have ha' : a ∉ d.updateWindowDims := of_decide_eq_true (List.mem_filter.1 ha).2
      rw [huw] at ha'
      have h1 : a.val ≠ 1 := fun h => ha' (List.mem_singleton.2 (Fin.ext h))
      obtain rfl : a = 0 := Fin.ext (show a.val = 0 by have := a.isLt; omega)
      rfl
    exact e _ (List.getElem_mem _)
  | ⟨1, _⟩ =>
    unfold ScatterDims.siIdx
    rw [dif_pos (by rw [hivd])]
    show List.idxOf (0 : Fin 2) d.scatterDimsToOperandDims = 0
    rw [hsd]; simp

include hsd in
theorem start_entry : d.start (ix2 k b) idx 1 = 0 := by
  unfold ScatterDims.start
  rw [dif_neg (by
    rw [hsd]; exact fun h => Nat.one_ne_zero (congrArg Fin.val (List.mem_singleton.1 h)))]

include huw hiw hsd hivd in
/-- Entry `b` of row `k` lands at `(r, c)` exactly when the row's index is `r` and the entry is `c`. -/
theorem lands (r : Fin N) (c : Fin B) :
    d.resultIdx? (ix2 k b) idx = some (ix2 r c) ↔ b = c ∧ (idx (ix2 k (0 : Fin 1))).toInt = (r.val : Int) := by
  have h := resultIdx?_ix2 d (ix2 k b) idx r c
  rw [window_row d hiw, window_entry d huw hiw, start_row d huw hsd hivd, start_entry d hsd] at h
  refine h.trans ?_
  rw [Fin.ext_iff]
  omega

end lands

/-- The scatter's sum into a table of zeros. -/
theorem scatter_apply {N B n : ℕ} (d : ScatterDims ⟨2, ![N, B]⟩ ⟨2, ![n, 1]⟩ ⟨2, ![n, B]⟩) (huw : d.updateWindowDims = [1])
    (hiw : d.insertedWindowDims = [0]) (hsd : d.scatterDimsToOperandDims = [0]) (hivd : d.indexVectorDim = 1)
    (z : FVec Ideal ⟨2, ![N, B]⟩ .f32) (hz : ∀ i, z i = (0 : EReal)) (idx : IVec ⟨2, ![n, 1]⟩ 32) (upd : FVec Ideal ⟨2, ![n, B]⟩ .f32)
    (r : Fin N) (c : Fin B) : Host.scatterAdd d z idx upd (ix2 r c)
      = ∑ k : Fin n, if (idx (ix2 k (0 : Fin 1))).toInt = (r.val : Int) then upd (ix2 k c) else (0 : EReal) := by
  have e : Host.scatterAdd d z idx upd (ix2 r c)
      = z (ix2 r c) + ∑ j ∈ Finset.univ.filter (fun j => d.resultIdx? j idx = some (ix2 r c)), (upd j : EReal) := rfl
  rw [e, hz, zero_add, Finset.sum_filter, sum_idx2]
  refine Finset.sum_congr rfl fun k _ => ?_
  rw [Finset.sum_eq_single c]
  · exact if_congr ((lands d huw hiw hsd hivd idx k c r c).trans (and_iff_right rfl)) rfl rfl
  · intro b _ hb
    rw [if_neg fun h => hb ((lands d huw hiw hsd hivd idx k b r c).1 h).1]
  · intro h; exact (h (Finset.mem_univ c)).elim

end Cert.RowScatter

end
-- ==== Proof.Spec.lean ====
/- The mathematics both programs compute, over the extended reals and over plain arrays.

   `x` are the rows, `q` their segment numbers, `gw gb` the gate's weights and bias, `mw mb` the message's. A row's
   weight is the exponential of its gate. `den` adds the weights of a segment, `num` the weighted messages, and the
   pooled message of a segment is `num / (den + ε)`. -/
module

public import Idealize.ShloMosaic.PureOps.Ideal
public import Idealize.ShloMosaic.Lib.Pointwise

@[expose] public section

noncomputable section

namespace Cert.Spec

open Idealize.ShloMosaic

variable (x : FVec Ideal ⟨2, ![320000, 128]⟩ .f32) (q : IVec ⟨1, ![320000]⟩ 32) (gw : FVec Ideal ⟨2, ![128, 1]⟩ .f32)
  (gb : FVec Ideal ⟨1, ![1]⟩ .f32) (mw : FVec Ideal ⟨2, ![128, 128]⟩ .f32) (mb : FVec Ideal ⟨1, ![128]⟩ .f32)

def gate (k : Fin 320000) : EReal := ∑ d : Fin 128, x (ix2 k d) * gw (ix2 d (0 : Fin 1)) + gb (ix1 (0 : Fin 1))

def message (k : Fin 320000) (j : Fin 128) : EReal := ∑ d : Fin 128, x (ix2 k d) * mw (ix2 d j) + mb (ix1 j)

def weight (k : Fin 320000) : EReal := Ideal.exp (gate x gw gb k)

/-- The sum of `v` over the rows of segment `s`. -/
def total (v : Fin 320000 → EReal) (s : ℕ) : EReal := ∑ k : Fin 320000, if (q (ix1 k)).toNat = s then v k else 0

def den (s : ℕ) : EReal := total q (weight x gw gb) s

def num (s : ℕ) (j : Fin 128) : EReal := total q (fun k => weight x gw gb k * message x mw mb k j) s

/-- The word of the small constant both programs add to a denominator. -/
abbrev ε : EReal := Ideal.ofBits .f32 0x2EDBE6FF#32

def pooled (s : ℕ) (j : Fin 128) : EReal := Ideal.div (num x q gw gb mw mb s j) (den x q gw gb s + ε)

/-- One row's part of `total`, for any number `k`: zero past the last row. -/
def term (v : Fin 320000 → EReal) (s k : ℕ) : EReal :=
  if h : k < 320000 then (if (q (ix1 ⟨k, h⟩)).toNat = s then v ⟨k, h⟩ else 0) else 0

theorem total_eq (v : Fin 320000 → EReal) (s : ℕ) : total q v s = ∑ k ∈ Finset.range 320000, term q v s k := by
  unfold total
  rw [Finset.sum_range]
  exact Finset.sum_congr rfl fun k _ => by unfold term; rw [dif_pos k.isLt]

end Cert.Spec

end
-- ==== Proof.SegmentIndex.lean ====
/- Sorted segment numbers used as an index: read signed they are themselves, no wrap of a negative index changes them, and a
   gather by them reads the segment's row. -/
module

public import proofs.«01_k».proof.Proof.RowScatter
public import proofs.«01_k».proof.Proof.Spec
public import proofs.«01_k».proof.Proof.Segments

@[expose] public section

noncomputable section

namespace Cert.SegmentIndex

open Idealize.ShloMosaic

variable (q : IVec ⟨1, ![320000]⟩ 32) (hs : Segments.Sorted q)

include hs in
theorem seg_lt (k : Fin 320000) : (q (ix1 k)).toNat < 10000 := by
  rw [Segments.eq_rowIx (ix1 k)]; exact hs.lt _ _

/-- The segment of row `k`. -/
abbrev seg (k : Fin 320000) : Fin 10000 := ⟨(q (ix1 k)).toNat, seg_lt q hs k⟩

include hs in
theorem toInt_iff (k : Fin 320000) (s : Fin 10000) : (q (ix1 k)).toInt = (s.val : ℤ) ↔ (q (ix1 k)).toNat = s.val := by
  have h := seg_lt q hs k
  rw [BitVec.toInt_eq_toNat_of_lt (by omega)]
  omega

include hs in
theorem wrap (k : Fin 320000) (a : BitVec 32) : Scalar.select (IntOp.cmpi .slt (q (ix1 k)) 0#32) a (q (ix1 k)) = q (ix1 k) :=
  Routing.wrap_of_lt _ _ (lt_of_lt_of_le (seg_lt q hs k) (by norm_num))

/-- A gather, by an index column that holds the segment numbers, from a column of segments. -/
theorem gather (d : GatherDims ⟨2, ![10000, 1]⟩ ⟨2, ![320000, 1]⟩ ⟨2, ![320000, 1]⟩) (hoff : d.offsetDims = [1])
    (hcoll : d.collapsedSliceDims = [0]) (hob : d.operandBatchingDims = []) (hsim : d.startIndexMap = [0])
    (hivd : d.indexVectorDim = 1) (v : FVec Ideal ⟨2, ![10000, 1]⟩ .f32) (idx : IVec ⟨2, ![320000, 1]⟩ 32) (k : Fin 320000)
    (hidx : idx (ix2 k 0) = q (ix1 k)) : Host.gather d v idx (ix2 k 0) = v (ix2 (seg q hs k) 0) :=
  Routing.gather_row d hoff hcoll hob hsim hivd v idx k 0 (seg q hs k) (hidx.trans (by simp)) (by norm_num)

include hs in
/-- A scatter's sum, by an index column that holds the segment numbers: a total over the rows of the segment. -/
theorem scatter {B : ℕ} (d : ScatterDims ⟨2, ![10000, B]⟩ ⟨2, ![320000, 1]⟩ ⟨2, ![320000, B]⟩) (huw : d.updateWindowDims = [1])
    (hiw : d.insertedWindowDims = [0]) (hsd : d.scatterDimsToOperandDims = [0]) (hivd : d.indexVectorDim = 1)
    (z : FVec Ideal ⟨2, ![10000, B]⟩ .f32) (hz : ∀ i, z i = (0 : EReal)) (idx : IVec ⟨2, ![320000, 1]⟩ 32)
    (hidx : ∀ k, idx (ix2 k 0) = q (ix1 k)) (upd : FVec Ideal ⟨2, ![320000, B]⟩ .f32) (s : Fin 10000) (c : Fin B) :
    Host.scatterAdd d z idx upd (ix2 s c) = Spec.total q (fun k => upd (ix2 k c)) s.val := by
  refine (RowScatter.scatter_apply d huw hiw hsd hivd z hz idx upd s c).trans ?_
  unfold Spec.total
  refine Finset.sum_congr rfl fun k _ => ?_
  rw [hidx]
  exact if_congr (toInt_iff q hs k s) rfl rfl

end Cert.SegmentIndex

end
-- ==== Proof.Quotient.lean ====
/- Where the division stands. Both denominators are positive, so dividing every row's weight and then adding, or adding and
   then dividing, is the same; and a shift of every gate of a segment by the same finite number cancels, when the small
   constant is scaled by the same factor. -/
module

public import proofs.«01_k».proof.Proof.Spec
public import Idealize.ShloMosaic.PureOps.Ideal.Laws

@[expose] public section

noncomputable section

namespace Cert.Quotient

open Idealize.ShloMosaic Cert.Spec

theorem eps_real : ∃ r : ℝ, 0 < r ∧ ε = (r : EReal) := by
  refine ⟨((2 ^ 23 + 6022911 : ℕ) : ℝ) * (2 : ℝ) ^ (-57 : ℤ), by positivity, ?_⟩
  simp [ε, Ideal.ofBits, Ideal.ieee]

theorem exp_nonneg (g : EReal) : 0 ≤ Ideal.exp g := by
  induction g with
  | bot => exact le_of_eq Ideal.exp_bot.symm
  | top => rw [Ideal.exp_top]; exact le_top
  | coe r => rw [Ideal.exp_coe]; exact_mod_cast (Real.exp_pos r).le

theorem sum_mul {ι : Type} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 ht, ih]

theorem inv_ne_top {c : EReal} : c⁻¹ ≠ ⊤ := by
  induction c with
  | bot => rw [EReal.inv_bot]; exact EReal.zero_ne_top
  | top => rw [EReal.inv_top]; exact EReal.zero_ne_top
  | coe r => rw [← EReal.coe_inv]; exact EReal.coe_ne_top _

theorem div_of_pos (x : EReal) {c : EReal} (h : 0 < c) : Ideal.div x c = x * c⁻¹ := by
  unfold Ideal.div; rw [if_neg h.ne']

theorem total_mul (q : IVec ⟨1, ![320000]⟩ 32) (v : Fin 320000 → EReal) (s : ℕ) {c : EReal} (h0 : 0 ≤ c) (ht : c ≠ ⊤) :
    total q v s * c = total q (fun k => v k * c) s := by
  unfold total
  rw [sum_mul _ _ h0 ht]
  exact Finset.sum_congr rfl fun k _ => by split <;> simp

theorem total_nonneg (q : IVec ⟨1, ![320000]⟩ 32) (v : Fin 320000 → EReal) (s : ℕ) (h : ∀ k, 0 ≤ v k) : 0 ≤ total q v s := by
  unfold total
  refine Finset.sum_nonneg fun k _ => ?_
  split
  · exact h k
  · exact le_rfl

/-- Two rows' values that agree on the segment have the same total there. -/
theorem total_congr (q : IVec ⟨1, ![320000]⟩ 32) (v w : Fin 320000 → EReal) (s : ℕ) (h : ∀ k, (q (ix1 k)).toNat = s → v k = w k) :
    total q v s = total q w s := by
  unfold total
  refine Finset.sum_congr rfl fun k _ => ?_
  split
  · next e => exact h k e
  · rfl

variable (x : FVec Ideal ⟨2, ![320000, 128]⟩ .f32) (q : IVec ⟨1, ![320000]⟩ 32) (gw : FVec Ideal ⟨2, ![128, 1]⟩ .f32)
  (gb : FVec Ideal ⟨1, ![1]⟩ .f32) (mw : FVec Ideal ⟨2, ![128, 128]⟩ .f32) (mb : FVec Ideal ⟨1, ![128]⟩ .f32)

theorem den_eps_pos (s : ℕ) : 0 < den x q gw gb s + ε := by
  obtain ⟨r, hr, e⟩ := eps_real
  have h : 0 ≤ den x q gw gb s := total_nonneg q _ s fun k => exp_nonneg _
  rw [e]
  exact lt_of_lt_of_le (by exact_mod_cast hr) (le_add_of_nonneg_left h)

/-- Dividing each row's weight first. -/
theorem pooled_eq (s : ℕ) (j : Fin 128) : pooled x q gw gb mw mb s j
    = total q (fun k => Ideal.div (weight x gw gb k) (den x q gw gb (q (ix1 k)).toNat + ε) * message x mw mb k j) s := by
  have h := den_eps_pos x q gw gb s
  unfold pooled num
  rw [div_of_pos _ h, total_mul q _ s (EReal.inv_nonneg_of_nonneg h.le) inv_ne_top]
  refine total_congr q _ _ s fun k e => ?_
  rw [e, div_of_pos _ h, mul_right_comm]

/-- The weights of a segment shifted by `M`, their sum, and the small constant scaled alike: the same quotient. -/
theorem shifted_eq (s : ℕ) (M : EReal) (hM : M ≠ ⊤) (hle : ∀ k, (q (ix1 k)).toNat = s → gate x gw gb k ≤ M)
    (k : Fin 320000) (hk : (q (ix1 k)).toNat = s) :
    Ideal.div (Ideal.exp (gate x gw gb k - M)) (total q (fun k => Ideal.exp (gate x gw gb k - M)) s + ε * Ideal.exp (-M))
      = Ideal.div (weight x gw gb k) (den x q gw gb s + ε) := by
  have hp := den_eps_pos x q gw gb s
  induction M with
  | top => exact (hM rfl).elim
  | bot =>
    have hg : gate x gw gb k = ⊥ := le_bot_iff.1 (hle k hk)
    obtain ⟨r, hr, e⟩ := eps_real
    have h1 : ε * Ideal.exp (-⊥) = ⊤ := by
      rw [EReal.neg_bot, Ideal.exp_top, e, EReal.coe_mul_top_of_pos hr]
    have h2 : 0 ≤ total q (fun k => Ideal.exp (gate x gw gb k - ⊥)) s := total_nonneg q _ s fun k => exp_nonneg _
    have h3 : total q (fun k => Ideal.exp (gate x gw gb k - ⊥)) s ≠ ⊥ := (lt_of_lt_of_le EReal.bot_lt_zero h2).ne'
    rw [h1, EReal.add_top_of_ne_bot h3, div_of_pos _ EReal.zero_lt_top, EReal.inv_top, mul_zero, div_of_pos _ hp]
    unfold weight
    rw [hg, Ideal.exp_bot, zero_mul]
  | coe m =>
    have hc : Ideal.exp (-(m : EReal)) = (Real.exp (-m) : EReal) := by rw [← EReal.coe_neg, Ideal.exp_coe]
    have hc0 : (0 : EReal) < (Real.exp (-m) : EReal) := by exact_mod_cast Real.exp_pos _
    have hsh : ∀ i, (q (ix1 i)).toNat = s → Ideal.exp (gate x gw gb i - (m : EReal)) = weight x gw gb i * (Real.exp (-m) : EReal) := by
      intro i hi
      have hi' := hle i hi
      unfold weight
      generalize gate x gw gb i = g at hi'
      induction g with
      | top => exact absurd (top_le_iff.1 hi') (EReal.coe_ne_top _)
      | bot => rw [EReal.bot_sub, Ideal.exp_bot, zero_mul]
      | coe r => rw [← EReal.coe_sub, Ideal.exp_coe, Ideal.exp_coe, ← EReal.coe_mul, ← Real.exp_add, sub_eq_add_neg]
    rw [hc, hsh k hk, total_congr q _ _ s hsh, ← total_mul q _ s hc0.le (EReal.coe_ne_top _),
      ← EReal.right_distrib_of_nonneg_of_ne_top hc0.le (EReal.coe_ne_top _)]
    have e : total q (fun k => weight x gw gb k) s = den x q gw gb s := rfl
    rw [e]
    generalize den x q gw gb s + ε = D at *
    have hD : 0 < D * (Real.exp (-m) : EReal) := EReal.mul_pos hp hc0
    have hi : (Real.exp (-m) : EReal) * (Real.exp (-m) : EReal)⁻¹ = 1 := by
      rw [← EReal.coe_inv, ← EReal.coe_mul, mul_inv_cancel₀ (Real.exp_pos _).ne', EReal.coe_one]
    rw [div_of_pos _ hD, div_of_pos _ hp, EReal.mul_inv, mul_mul_mul_comm, hi, mul_one]

end Cert.Quotient

end
-- ==== Proof.Unshifted.lean ====
/- The unshifted reference's result, read at a segment and a channel: the pooled message. -/
module

public import proofs.«01_k».proof.Proof.Gen.UnshiftedIdeal.Read
public import proofs.«01_k».proof.Proof.SegmentIndex
public import proofs.«01_k».proof.Proof.Quotient

@[expose] public section

set_option maxRecDepth 16384

noncomputable section

namespace Cert.Unshifted

open Cert.UnshiftedIdeal Cert.UnshiftedIdeal.Read Idealize.ShloMosaic

variable (x : FVec Ideal ⟨2, ![320000, 128]⟩ .f32) (q : IVec ⟨1, ![320000]⟩ 32) (gw : FVec Ideal ⟨2, ![128, 1]⟩ .f32)
  (gb : FVec Ideal ⟨1, ![1]⟩ .f32) (mw : FVec Ideal ⟨2, ![128, 128]⟩ .f32) (mb : FVec Ideal ⟨1, ![128]⟩ .f32)

theorem gate_apply (k : Fin 320000) : val_main_v3 (F := Ideal) x gw gb (ix2 k 0) = Spec.gate x gw gb k := by
  unfold Spec.gate
  pointwise [val_main_v3, val_main_v0, val_main_v2, val_main_v1]

theorem message_apply (k : Fin 320000) (j : Fin 128) : val_main_v21 (F := Ideal) x mw mb (ix2 k j) = Spec.message x mw mb k j := by
  unfold Spec.message
  pointwise [val_main_v21, val_main_v18, val_main_v19, val_main_v20]

theorem weight_apply (k : Fin 320000) : val_main_v4 (F := Ideal) x gw gb (ix2 k 0) = Spec.weight x gw gb k :=
  congrArg Ideal.exp (gate_apply x gw gb k)

theorem column_apply (k : Fin 320000) : val_main_v6 (F := Ideal) q (ix2 k 0) = q (ix1 k) := by
  pointwise [val_main_v6]

theorem zeroColumn_apply (i : S10000x1.Idx) : val_main_v5 (F := Ideal) i = (0 : EReal) := by
  rw [val_main_v5_apply]; exact Ideal.ofBits_zero_f32

theorem zeroTable_apply (i : S10000x128.Idx) : val_main_v24 (F := Ideal) i = (0 : EReal) := by
  rw [val_main_v24_apply]; exact Ideal.ofBits_zero_f32

variable (hs : Segments.Sorted q)

include hs in
/-- The index the gather reads with: no number is negative, so none is wrapped. -/
theorem wrapped_apply (k : Fin 320000) : val_main_v13 (F := Ideal) q (ix2 k 0) = q (ix1 k) := by
  have e : val_main_v13 (F := Ideal) q (ix2 k 0) = val_main_v12 (F := Ideal) q (ix1 k) := by pointwise [val_main_v13]
  rw [e, val_main_v12_apply, val_main_v9_apply, val_main_v8_apply, val_main_c_apply]
  exact SegmentIndex.wrap q hs k _

include hs in
theorem sum_apply (s : Fin 10000) : val_main_v7 (F := Ideal) x q gw gb (ix2 s 0) = Spec.den x q gw gb s.val := by
  unfold val_main_v7
  refine (SegmentIndex.scatter q hs _ rfl rfl rfl rfl _ zeroColumn_apply _ (column_apply q) _ s 0).trans ?_
  exact Quotient.total_congr q _ _ _ fun k _ => weight_apply x gw gb k

include hs in
theorem gathered_apply (k : Fin 320000) : val_main_v14 (F := Ideal) x q gw gb (ix2 k 0) = Spec.den x q gw gb (q (ix1 k)).toNat := by
  unfold val_main_v14
  exact (SegmentIndex.gather q hs _ rfl rfl rfl rfl rfl _ _ k (wrapped_apply q hs k)).trans (sum_apply x q gw gb hs _)

include hs in
theorem share_apply (k : Fin 320000) (j : Fin 128) : val_main_v22 (F := Ideal) x q gw gb (ix2 k j)
    = Ideal.div (Spec.weight x gw gb k) (Spec.den x q gw gb (q (ix1 k)).toNat + Spec.ε) := by
  have e : val_main_v22 (F := Ideal) x q gw gb (ix2 k j) = val_main_v17 (F := Ideal) x q gw gb (ix2 k 0) := by pointwise [val_main_v22]
  rw [e, val_main_v17_apply, val_main_v16_apply, weight_apply, gathered_apply x q gw gb hs, val_main_v15_apply, val_main_cst_1_apply]
  rfl

include hs in
theorem result_apply (s : Fin 10000) (j : Fin 128) : val_main_v26 (F := Ideal) x q gw gb mw mb (ix2 s j)
    = Spec.pooled x q gw gb mw mb s.val j := by
  unfold val_main_v26
  refine (SegmentIndex.scatter q hs _ rfl rfl rfl rfl _ zeroTable_apply _ (fun k => by pointwise [val_main_v25]) _ s j).trans ?_
  rw [Quotient.pooled_eq]
  refine Quotient.total_congr q _ _ _ fun k _ => ?_
  rw [val_main_v23_apply, share_apply x q gw gb hs, message_apply]
  rfl

end Cert.Unshifted

end
-- ==== Proof.Shifted.lean ====
/- The shifted reference's result, read at a segment and a channel: the pooled message too. The shift of a segment is the
   greatest of its gates; all that is used of it is that no gate of the segment is above it and that it is not +inf. -/
module

public import proofs.«01_k».proof.Proof.Gen.ReferenceIdeal.Read
public import proofs.«01_k».proof.Proof.SegmentIndex
public import proofs.«01_k».proof.Proof.Quotient

@[expose] public section

set_option maxRecDepth 16384

noncomputable section

namespace Cert.Shifted

open Cert.ReferenceIdeal Cert.ReferenceIdeal.Read Idealize.ShloMosaic

variable (x : FVec Ideal ⟨2, ![320000, 128]⟩ .f32) (q : IVec ⟨1, ![320000]⟩ 32) (gw : FVec Ideal ⟨2, ![128, 1]⟩ .f32)
  (gb : FVec Ideal ⟨1, ![1]⟩ .f32) (mw : FVec Ideal ⟨2, ![128, 128]⟩ .f32) (mb : FVec Ideal ⟨1, ![128]⟩ .f32)

theorem gate_apply (k : Fin 320000) : val_main_v3 (F := Ideal) x gw gb (ix2 k 0) = Spec.gate x gw gb k := by
  unfold Spec.gate
  pointwise [val_main_v3, val_main_v0, val_main_v2, val_main_v1]

theorem message_apply (k : Fin 320000) (j : Fin 128) : val_main_v48 (F := Ideal) x mw mb (ix2 k j) = Spec.message x mw mb k j := by
  unfold Spec.message
  pointwise [val_main_v48, val_main_v45, val_main_v46, val_main_v47]

theorem zeroColumn_apply (i : S10000x1.Idx) : val_main_v22 (F := Ideal) i = (0 : EReal) := by
  rw [val_main_v22_apply]; exact Ideal.ofBits_zero_f32

theorem zeroTable_apply (i : S10000x128.Idx) : val_main_v51 (F := Ideal) i = (0 : EReal) := by
  rw [val_main_v51_apply]; exact Ideal.ofBits_zero_f32

/-! ## The segment maximum -/

theorem minus_inf : Ideal.ofBits .f32 0xFF800000#32 = ⊥ := by simp [Ideal.ofBits, Ideal.ieee]

/-- The masked gate of row `k` in column `s`. -/
theorem masked_apply (k : Fin 320000) (s : Fin 10000) : val_main_v10 (F := Ideal) x q gw gb (ix2 k s)
    = Scalar.select (IntOp.cmpi .eq (q (ix1 k)) (BitVec.ofNat 32 s.val)) (Spec.gate x gw gb k) (⊥ : EReal) := by
  have e1 : val_main_v9 (F := Ideal) q (ix2 k s) = IntOp.cmpi .eq (q (ix1 k)) (BitVec.ofNat 32 s.val) := by
    pointwise [val_main_v9, val_main_v7, val_main_v8, val_main_v4, val_main_v6, val_main_v5]
  have e2 : val_main_call0_v1 (F := Ideal) x gw gb (ix2 k s) = val_main_v3 (F := Ideal) x gw gb (ix2 k 0) := by
    pointwise [val_main_call0_v1]
  have e3 : val_main_call0_v2 (F := Ideal) (ix2 k s) = (⊥ : EReal) := by
    rw [val_main_call0_v2_apply]; exact minus_inf
  rw [val_main_v10_apply, e1, e2, e3, gate_apply]

/-- A segment's shift. -/
def peak (s : Fin 10000) : EReal := val_main_v12 (F := Ideal) x q gw gb (ix2 s 0)

theorem peak_eq (s : Fin 10000) : peak x q gw gb s
    = Finset.univ.fold max (⊥ : EReal) fun k : Fin 320000 => val_main_v10 (F := Ideal) x q gw gb (ix2 k s) := by
  unfold peak
  rw [← minus_inf]
  pointwise [val_main_v12, val_main_v11]
  rfl

theorem gate_le_peak (s : Fin 10000) (k : Fin 320000) (h : (q (ix1 k)).toNat = s.val) : Spec.gate x gw gb k ≤ peak x q gw gb s := by
  have e : q (ix1 k) = BitVec.ofNat 32 s.val := by rw [← h]; simp
  rw [peak_eq, Finset.le_fold_max]
  refine Or.inr ⟨k, Finset.mem_univ _, ?_⟩
  rw [masked_apply, e]
  simp [Scalar.select, IntOp.cmpi]

theorem peak_ne_top (s : Fin 10000) (h : ∀ k, Spec.gate x gw gb k < ⊤) : peak x q gw gb s ≠ ⊤ := by
  refine ne_of_lt ?_
  rw [peak_eq, Finset.fold_max_lt]
  refine ⟨bot_lt_top, fun k _ => ?_⟩
  rw [masked_apply]
  unfold Scalar.select
  split
  · exact h k
  · exact bot_lt_top

/-! ## The weights, their sums and the result -/

variable (hs : Segments.Sorted q)

/-- Row `k`'s weight, shifted by its segment's shift. -/
def shifted (k : Fin 320000) : EReal := Ideal.exp (Spec.gate x gw gb k - peak x q gw gb (SegmentIndex.seg q hs k))

include hs in
/-- The three index columns the gathers read with: no number is negative, so none is wrapped. -/
theorem wrapped_max (k : Fin 320000) : val_main_v18 (F := Ideal) q (ix2 k 0) = q (ix1 k) := by
  have e : val_main_v18 (F := Ideal) q (ix2 k 0) = val_main_v17 (F := Ideal) q (ix1 k) := by pointwise [val_main_v18]
  rw [e, val_main_v17_apply, val_main_v14_apply, val_main_v13_apply, val_main_c_apply]
  exact SegmentIndex.wrap q hs k _

include hs in
theorem wrapped_sum (k : Fin 320000) : val_main_v30 (F := Ideal) q (ix2 k 0) = q (ix1 k) := by
  have e : val_main_v30 (F := Ideal) q (ix2 k 0) = val_main_v29 (F := Ideal) q (ix1 k) := by pointwise [val_main_v30]
  rw [e, val_main_v29_apply, val_main_v26_apply, val_main_v25_apply, val_main_c_3_apply]
  exact SegmentIndex.wrap q hs k _

include hs in
theorem wrapped_scale (k : Fin 320000) : val_main_v37 (F := Ideal) q (ix2 k 0) = q (ix1 k) := by
  have e : val_main_v37 (F := Ideal) q (ix2 k 0) = val_main_v36 (F := Ideal) q (ix1 k) := by pointwise [val_main_v37]
  rw [e, val_main_v36_apply, val_main_v33_apply, val_main_v32_apply, val_main_c_5_apply]
  exact SegmentIndex.wrap q hs k _

theorem weight_apply (k : Fin 320000) : val_main_v21 (F := Ideal) x q gw gb (ix2 k 0) = shifted x q gw gb hs k := by
  have e : val_main_v19 (F := Ideal) x q gw gb (ix2 k 0) = peak x q gw gb (SegmentIndex.seg q hs k) := by
    unfold val_main_v19
    exact SegmentIndex.gather q hs _ rfl rfl rfl rfl rfl _ _ k (wrapped_max q hs k)
  rw [val_main_v21_apply, val_main_v20_apply, gate_apply, e]
  rfl

theorem sum_apply (s : Fin 10000) : val_main_v24 (F := Ideal) x q gw gb (ix2 s 0) = Spec.total q (shifted x q gw gb hs) s.val := by
  unfold val_main_v24
  refine (SegmentIndex.scatter q hs _ rfl rfl rfl rfl _ zeroColumn_apply _ (fun k => by pointwise [val_main_v23]) _ s 0).trans ?_
  exact Quotient.total_congr q _ _ _ fun k _ => weight_apply x q gw gb hs k

/-- A row's denominator: its segment's sum, and the small constant scaled as the weights are. -/
theorem den_apply (k : Fin 320000) : val_main_v43 (F := Ideal) x q gw gb (ix2 k 0)
    = Spec.total q (shifted x q gw gb hs) (SegmentIndex.seg q hs k).val
      + Spec.ε * Ideal.exp (-peak x q gw gb (SegmentIndex.seg q hs k)) := by
  have e1 : val_main_v31 (F := Ideal) x q gw gb (ix2 k 0) = Spec.total q (shifted x q gw gb hs) (SegmentIndex.seg q hs k).val := by
    unfold val_main_v31
    exact (SegmentIndex.gather q hs _ rfl rfl rfl rfl rfl _ _ k (wrapped_sum q hs k)).trans (sum_apply x q gw gb hs _)
  have e2 : val_main_v38 (F := Ideal) x q gw gb (ix2 k 0) = peak x q gw gb (SegmentIndex.seg q hs k) := by
    unfold val_main_v38
    exact SegmentIndex.gather q hs _ rfl rfl rfl rfl rfl _ _ k (wrapped_scale q hs k)
  rw [val_main_v43_apply, val_main_v42_apply, val_main_v41_apply, val_main_cst_7_apply, val_main_v40_apply, val_main_v39_apply, e1, e2]
  generalize Spec.total q (shifted x q gw gb hs) (SegmentIndex.seg q hs k).val = A
  generalize peak x q gw gb (SegmentIndex.seg q hs k) = B
  rfl

variable (hg : ∀ k, Spec.gate x gw gb k < ⊤)

include hs hg in
theorem share_apply (k : Fin 320000) (j : Fin 128) : val_main_v49 (F := Ideal) x q gw gb (ix2 k j)
    = Ideal.div (Spec.weight x gw gb k) (Spec.den x q gw gb (q (ix1 k)).toNat + Spec.ε) := by
  have e : val_main_v49 (F := Ideal) x q gw gb (ix2 k j) = val_main_v44 (F := Ideal) x q gw gb (ix2 k 0) := by pointwise [val_main_v49]
  rw [e, val_main_v44_apply, weight_apply x q gw gb hs, den_apply x q gw gb hs]
  -- on the row's segment every weight is shifted by the same number
  have c : Spec.total q (shifted x q gw gb hs) (SegmentIndex.seg q hs k).val
      = Spec.total q (fun i => Ideal.exp (Spec.gate x gw gb i - peak x q gw gb (SegmentIndex.seg q hs k))) (SegmentIndex.seg q hs k).val :=
    Quotient.total_congr q _ _ _ fun i hi => by
      unfold shifted
      rw [show SegmentIndex.seg q hs i = SegmentIndex.seg q hs k from Fin.ext hi]
  rw [c]
  exact Quotient.shifted_eq x q gw gb (SegmentIndex.seg q hs k).val (peak x q gw gb (SegmentIndex.seg q hs k))
    (peak_ne_top x q gw gb _ hg) (fun i hi => gate_le_peak x q gw gb _ i hi) k rfl

include hs hg in
theorem result_apply (s : Fin 10000) (j : Fin 128) : val_main_v53 (F := Ideal) x q gw gb mw mb (ix2 s j)
    = Spec.pooled x q gw gb mw mb s.val j := by
  unfold val_main_v53
  refine (SegmentIndex.scatter q hs _ rfl rfl rfl rfl _ zeroTable_apply _ (fun k => by pointwise [val_main_v52]) _ s j).trans ?_
  rw [Quotient.pooled_eq]
  refine Quotient.total_congr q _ _ _ fun k _ => ?_
  rw [val_main_v50_apply, share_apply x q gw gb hs hg, message_apply]
  rfl

end Cert.Shifted

end
-- ==== Proof.KernelIdeal.Payloads.lean ====
/- What the body's vectors hold, element by element, over the extended reals: the exponential of a row's gate, the row's
   weighted message, the selection matrix of a chunk, what a trip adds to its window, and the last point's quotient. -/
module

public import proofs.«01_k».proof.Proof.KernelIdeal.Sorted
public import Idealize.ShloMosaic.Lib.Pointwise

@[expose] public section

set_option maxRecDepth 16384

noncomputable section

namespace Cert.KernelIdeal.Payloads

open Cert.KernelIdeal Cert.KernelIdeal.Gen Cert.KernelIdeal.Body Cert.KernelIdeal.Words
open Idealize.ShloMosaic Idealize.ShloMosaic.TcCoe
open Idealize.ShloMosaic.Affine (IsInt)

/-- The exponential of a row's gate. -/
theorem weight_apply (x2 : FVec Ideal S2560x128 .f32) (x3 : FVec Ideal S128x1 .f32) (x4 : FVec Ideal S1x1 .f32) (r : Fin 2560) :
    k0_pay11 (F := Ideal) x2 x3 x4 (ix2 r 0) = Ideal.exp (∑ d, x2 (ix2 r d) * x3 (ix2 d 0) + x4 (ix2 0 0)) := by
  pointwise [k0_pay11]

/-- A row's message, times its weight. -/
theorem weighted_apply (x2 : FVec Ideal S2560x128 .f32) (x3 : FVec Ideal S128x1 .f32) (x4 : FVec Ideal S1x1 .f32)
    (x5 : FVec Ideal S128x128 .f32) (x6 : FVec Ideal S1x128 .f32) (r : Fin 2560) (j : Fin 128) :
    k0_pay12 (F := Ideal) x2 x3 x4 x5 x6 (ix2 r j)
      = Ideal.exp (∑ d, x2 (ix2 r d) * x3 (ix2 d 0) + x4 (ix2 0 0)) * (∑ d, x2 (ix2 r d) * x5 (ix2 d j) + x6 (ix2 0 j)) := by
  pointwise [k0_pay12, k0_pay11]

/-- The quotient the last point writes. -/
theorem quotient_apply (x : FVec Ideal S10000x128 .f32) (y : FVec Ideal S10000x1 .f32) (s : Fin 10000) (j : Fin 128) :
    k0_pay8 (F := Ideal) x y (ix2 s j) = Ideal.div (x (ix2 s j)) (y (ix2 s 0) + Ideal.ofBits .f32 0x2EDBE6FF#32) := by
  pointwise [k0_pay8]

theorem zeroOut_apply (s : Fin 10000) (j : Fin 128) : k0_pay9 (F := Ideal) (ix2 s j) = 0 := by
  pointwise [k0_pay9]

theorem zeroDen_apply (s : Fin 10000) : k0_pay10 (F := Ideal) (ix2 s 0) = 0 := by
  pointwise [k0_pay10]

/-- What a word reads as, as an equation. -/
theorem toInt_of {x : BitVec 32} {e : ℤ} (h : IsInt x e) : x.toInt = e := by unfold IsInt at h; exact h

section Trip

variable {v22 v41 : BitVec 32} {a b : ℕ} (h : Range v22 v41 a b) (k : Fin (k0_t1_loop v22 v41).trips) (q : IVec S2560 32)

include h

/-- The first segment of trip `k`'s chunk. -/
abbrev base (a k : ℕ) : ℕ := (a / 128 + k) * 128

theorem eq_word (x : BitVec 32) (hx : x.toNat < 10000) (l : Fin 128) :
    IntOp.cmpi .eq x (IntOp.addi (Scalar.minsi (Scalar.muli (Scf.iv (floor128 v22) 1#32 k.val) 128#32) 9872#32) (BitVec.ofNat 32 l.val))
      = BitVec.ofBool (decide (start (base a k) + l.val = x.toNat)) := by
  have hl := l.isLt
  have hst : start (base a k) ≤ 9872 := Nat.min_le_right _ _
  have e := Affine.addi (e := ((start (base a k) + l.val : ℕ) : ℤ)) (start_isInt h k) (lit l.val (by omega))
    ⟨by push_cast; rfl, by omega, by omega⟩
  have e' := Affine.toNat_of e (by omega)
  refine congrArg BitVec.ofBool ?_
  show (x == _) = _
  rw [Bool.eq_iff_iff, beq_iff_eq, decide_eq_true_eq, ← BitVec.toNat_inj]
  have e'' : BitVec.toNat _ = start (base a k) + l.val := Int.ofNat_inj.mp e'
  exact (Eq.congr_right e'').trans eq_comm

theorem sge_word (x : BitVec 32) (hx : x.toNat < 10000) :
    IntOp.cmpi .sge x (Scalar.muli (Scf.iv (floor128 v22) 1#32 k.val) 128#32) = BitVec.ofBool (decide (base a k ≤ x.toNat)) := by
  have e : (Scalar.muli (Scf.iv (floor128 v22) 1#32 k.val) 128#32).toInt = ((base a k : ℕ) : ℤ) := toInt_of (base_isInt h k)
  have ex : x.toInt = x.toNat := toInt_of (Sorted.isInt_of_lt hx)
  refine congrArg BitVec.ofBool ?_
  show BitVec.sle _ _ = _
  rw [BitVec.sle_eq_decide, e, ex]
  rw [decide_eq_decide]; exact Int.ofNat_le

/-- The selection matrix of a chunk: one where the row's segment is the column's, zero elsewhere. -/
theorem select_apply (r : Fin 2560) (l : Fin 128) (hx : (q (ix1 r)).toNat < 10000) :
    k0_pay2 (F := Ideal) q v22 (Scalar.divsi v22 128#32) (signWord v22) (Scalar.remsi v22 128#32) v41 k (ix2 r l)
      = if start (base a k) + l.val = (q (ix1 r)).toNat ∧ base a k ≤ (q (ix1 r)).toNat then (1 : EReal) else 0 := by
  pointwise [k0_pay2]
  have e1 := eq_word h k (q (ix1 r)) hx l
  have e2 := sge_word h k (q (ix1 r)) hx
  refine (congrArg (fun w : BitVec 1 => ((((w.setWidth 32).toInt : ℤ) : ℝ) : EReal)) (congrArg₂ IntOp.andi e1 e2)).trans ?_
  by_cases p1 : start (base a k) + l.val = (q (ix1 r)).toNat <;> by_cases p2 : base a k ≤ (q (ix1 r)).toNat <;>
    simp [p1, p2, IntOp.andi]

omit h in
/-- The chunk and the place of a segment: it is in trip `k`'s chunk exactly when its window has it past the chunk's first. -/
theorem window_iff (s : ℕ) (hs : s < 10000) : (start (base a k) ≤ s ∧ s < start (base a k) + 128 ∧ base a k ≤ s) ↔ s / 128 = a / 128 + k.val := by
  unfold start base; omega

end Trip

end Cert.KernelIdeal.Payloads

end
-- ==== Proof.KernelIdeal.Contribution.lean ====
/- What a block adds to the two accumulators.

   A trip adds to segment `s` the sum over the block's rows of that segment, if `s` is in the trip's chunk, and nothing
   otherwise. A block's trips go through all chunks its rows have segments in, so the block adds, to every segment, the
   sum over its rows of that segment. -/
module

public import proofs.«01_k».proof.Proof.KernelIdeal.Payloads

@[expose] public section

set_option maxRecDepth 16384

noncomputable section

namespace Cert.KernelIdeal.Contribution

open Cert.KernelIdeal Cert.KernelIdeal.Gen Cert.KernelIdeal.Body Cert.KernelIdeal.Words Cert.KernelIdeal.Payloads Cert.KernelIdeal.Trips
open Idealize.ShloMosaic Idealize.ShloMosaic.TcCoe
open Idealize.ShloMosaic.VecWindow (window put)

section Rows

variable {α : Type} {C : ℕ}

/-- A store of 128 whole rows, read at an element. -/
theorem put_rows (x : (⟨2, ![10000, C]⟩ : Shape).Idx → α) (off : Fin 2 → ℕ) (st : ℕ) (ho : off = ![st, 0])
    (w : (⟨2, ![128, C]⟩ : Shape).Idx → α) (s : Fin 10000) (j : Fin C) :
    put (s := ⟨2, ![10000, C]⟩) x off (⟨2, ![128, C]⟩ : Shape).size w (ix2 s j)
      = if h : st ≤ s.val ∧ s.val < st + 128 then w (ix2 ⟨s.val - st, by omega⟩ j) else x (ix2 s j) := by
  subst ho
  unfold put
  by_cases h : st ≤ s.val ∧ s.val < st + 128
  · rw [dif_pos h, dif_pos (show ∀ a : Fin 2, _ by
      intro a
      match a with
      | ⟨0, _⟩ => exact h
      | ⟨1, _⟩ => exact ⟨Nat.zero_le _, by show j.val < 0 + C; have := j.isLt; omega⟩)]
    refine congrArg w (funext fun a => Fin.ext ?_)
    match a with
    | ⟨0, _⟩ => rfl
    | ⟨1, _⟩ => rfl
  · rw [dif_neg h, dif_neg fun h' => h (h' 0)]

/-- A load of 128 whole rows, read at an element. -/
theorem window_rows (x : (⟨2, ![10000, C]⟩ : Shape).Idx → α) (off : Fin 2 → ℕ) (st : ℕ) (ho : off = ![st, 0]) (inb) (l : Fin 128)
    (j : Fin C) (s : Fin 10000) (h : st + l.val = s.val) :
    window (s := ⟨2, ![10000, C]⟩) x off (⟨2, ![128, C]⟩ : Shape).size inb (ix2 l j) = x (ix2 s j) := by
  subst ho
  unfold window
  refine congrArg x (funext fun a => Fin.ext ?_)
  match a with
  | ⟨0, _⟩ => show st + 1 * l.val = s.val; omega
  | ⟨1, _⟩ => show 0 + 1 * j.val = j.val; omega

end Rows

/-- The sum of `v` over the rows whose segment is `s`. -/
def segSum (q : IVec S2560 32) (v : Fin 2560 → EReal) (s : ℕ) : EReal := ∑ r, if (q (ix1 r)).toNat = s then v r else 0

theorem segSum_none (q : IVec S2560 32) (v : Fin 2560 → EReal) (s : ℕ) (h : ∀ r, (q (ix1 r)).toNat ≠ s) : segSum q v s = 0 :=
  Finset.sum_eq_zero fun r _ => if_neg (h r)

variable (v10 : FVec Ideal S2560x1 .f32) (v18 : FVec Ideal S2560x128 .f32)
variable {v22 v41 : BitVec 32} {a b : ℕ} (h : Range v22 v41 a b) (q : IVec S2560 32) (hq : ∀ r, (q (ix1 r)).toNat < 10000)
  (hw : k0_chk1 v22 v41)

include h hq

/-- The product of the selection matrix with a column of row values, at the place of segment `s`. -/
theorem select_sum (k : Fin (k0_t1_loop v22 v41).trips) (v : Fin 2560 → EReal) (s : Fin 10000) (l : Fin 128)
    (hl : start (base a k) + l.val = s.val) :
    ∑ r, k0_pay2 (F := Ideal) q v22 (Scalar.divsi v22 128#32) (signWord v22) (Scalar.remsi v22 128#32) v41 k (ix2 r l) * v r
      = if s.val / 128 = a / 128 + k.val then segSum q v s.val else 0 := by
  have hs := s.isLt
  have hl' := l.isLt
  have hi := window_iff (a := a) k s.val hs
  by_cases hc : s.val / 128 = a / 128 + k.val
  · rw [if_pos hc]
    refine Finset.sum_congr rfl fun r _ => ?_
    rw [select_apply h k q r l (hq r), hl]
    have hb := (hi.mpr hc).2.2
    by_cases e : (q (ix1 r)).toNat = s.val
    · rw [if_pos ⟨e.symm, by omega⟩, if_pos e, one_mul]
    · rw [if_neg fun p => e p.1.symm, if_neg e, zero_mul]
  · rw [if_neg hc]
    refine Finset.sum_eq_zero fun r _ => ?_
    rw [select_apply h k q r l (hq r), hl, if_neg, zero_mul]
    intro p
    exact hc (hi.mp ⟨by omega, by omega, by omega⟩)

/-- One trip, on the output. -/
theorem outStep_apply (k : Fin (k0_t1_loop v22 v41).trips) (acc : FVec Ideal S10000x128 .f32) (s : Fin 10000) (j : Fin 128) :
    outStep (F := Ideal) v18 q v22 (Scalar.divsi v22 128#32) (signWord v22) (Scalar.remsi v22 128#32) v41 hw k acc (ix2 s j)
      = acc (ix2 s j) + if s.val / 128 = a / 128 + k.val then segSum q (fun r => v18 (ix2 r j)) s.val else 0 := by
  unfold outStep
  refine (put_rows acc _ (start (base a k)) (off1_eq h k) _ s j).trans ?_
  by_cases hin : start (base a k) ≤ s.val ∧ s.val < start (base a k) + 128
  · rw [dif_pos hin]
    pointwise [k0_pay3]
    refine congrArg₂ (· + ·) (window_rows acc _ (start (base a k)) (off1_eq h k) _ _ j s (by show _ + (s.val - _) = _; omega)) ?_
    exact select_sum h q hq k (fun r => v18 (ix2 r j)) s _ (by show _ + (s.val - _) = _; omega)
  · rw [dif_neg hin, if_neg, add_zero]
    intro hc
    have := (window_iff (a := a) k s.val s.isLt).mpr hc
    exact hin ⟨this.1, this.2.1⟩

/-- One trip, on the denominators. -/
theorem denStep_apply (k : Fin (k0_t1_loop v22 v41).trips) (acc : FVec Ideal S10000x1 .f32) (s : Fin 10000) :
    denStep (F := Ideal) v10 q v22 (Scalar.divsi v22 128#32) (signWord v22) (Scalar.remsi v22 128#32) v41 hw k acc (ix2 s 0)
      = acc (ix2 s 0) + if s.val / 128 = a / 128 + k.val then segSum q (fun r => v10 (ix2 r 0)) s.val else 0 := by
  unfold denStep
  refine (put_rows acc _ (start (base a k)) (off2_eq h k) _ s 0).trans ?_
  by_cases hin : start (base a k) ≤ s.val ∧ s.val < start (base a k) + 128
  · rw [dif_pos hin]
    pointwise [k0_pay4]
    refine congrArg₂ (· + ·) (window_rows acc _ (start (base a k)) (off2_eq h k) _ _ 0 s (by show _ + (s.val - _) = _; omega)) ?_
    exact select_sum h q hq k (fun r => v10 (ix2 r 0)) s _ (by show _ + (s.val - _) = _; omega)
  · rw [dif_neg hin, if_neg, add_zero]
    intro hc
    have := (window_iff (a := a) k s.val s.isLt).mpr hc
    exact hin ⟨this.1, this.2.1⟩

omit h hq in
/-- A chunk more: the chunks before it, or it. -/
theorem chunk_add (x g : EReal) (c lo n : ℕ) :
    (x + if lo ≤ c ∧ c < lo + n then g else 0) + (if c = lo + n then g else 0) = x + if lo ≤ c ∧ c < lo + (n + 1) then g else 0 := by
  by_cases e : c = lo + n
  · rw [if_neg (by omega), if_pos e, if_pos (by omega), add_zero]
  · rw [if_neg e, add_zero]
    by_cases p : lo ≤ c ∧ c < lo + n
    · rw [if_pos p, if_pos (by omega)]
    · rw [if_neg p, if_neg (by omega)]

theorem outAfter_apply (acc : FVec Ideal S10000x128 .f32) (s : Fin 10000) (j : Fin 128) (n : ℕ) (hn : n ≤ (k0_t1_loop v22 v41).trips) :
    outAfter (F := Ideal) v18 q v22 (Scalar.divsi v22 128#32) (signWord v22) (Scalar.remsi v22 128#32) v41 hw acc n (ix2 s j)
      = acc (ix2 s j) + if a / 128 ≤ s.val / 128 ∧ s.val / 128 < a / 128 + n then segSum q (fun r => v18 (ix2 r j)) s.val else 0 := by
  induction n with
  | zero => rw [outAfter, if_neg (by omega), add_zero]
  | succ n ih =>
    rw [outAfter, dif_pos (show n < _ from hn), outStep_apply v18 h q hq hw, ih (by omega)]
    exact chunk_add _ _ _ _ _

theorem denAfter_apply (acc : FVec Ideal S10000x1 .f32) (s : Fin 10000) (n : ℕ) (hn : n ≤ (k0_t1_loop v22 v41).trips) :
    denAfter (F := Ideal) v10 q v22 (Scalar.divsi v22 128#32) (signWord v22) (Scalar.remsi v22 128#32) v41 hw acc n (ix2 s 0)
      = acc (ix2 s 0) + if a / 128 ≤ s.val / 128 ∧ s.val / 128 < a / 128 + n then segSum q (fun r => v10 (ix2 r 0)) s.val else 0 := by
  induction n with
  | zero => rw [denAfter, if_neg (by omega), add_zero]
  | succ n ih =>
    rw [denAfter, dif_pos (show n < _ from hn), denStep_apply v10 h q hq hw, ih (by omega)]
    exact chunk_add _ _ _ _ _

/-- The chunks gone through hold every segment a row has. -/
theorem all_chunks (hab : ∀ r, a ≤ (q (ix1 r)).toNat ∧ (q (ix1 r)).toNat ≤ b) (v : Fin 2560 → EReal) (s : ℕ) :
    (if a / 128 ≤ s / 128 ∧ s / 128 < a / 128 + (k0_t1_loop v22 v41).trips then segSum q v s else 0) = segSum q v s := by
  have := h.le
  rw [trips1 h]
  split
  · rfl
  · rename_i hn
    refine (segSum_none q v s fun r e => hn ?_).symm
    have := hab r
    omega

theorem outAll_apply (hab : ∀ r, a ≤ (q (ix1 r)).toNat ∧ (q (ix1 r)).toNat ≤ b) (acc : FVec Ideal S10000x128 .f32) (s : Fin 10000) (j : Fin 128) :
    outAfter (F := Ideal) v18 q v22 (Scalar.divsi v22 128#32) (signWord v22) (Scalar.remsi v22 128#32) v41 hw acc (k0_t1_loop v22 v41).trips (ix2 s j)
      = acc (ix2 s j) + segSum q (fun r => v18 (ix2 r j)) s.val := by
  rw [outAfter_apply v18 h q hq hw acc s j _ le_rfl, all_chunks h q hq hab]

theorem denAll_apply (hab : ∀ r, a ≤ (q (ix1 r)).toNat ∧ (q (ix1 r)).toNat ≤ b) (acc : FVec Ideal S10000x1 .f32) (s : Fin 10000) :
    denAfter (F := Ideal) v10 q v22 (Scalar.divsi v22 128#32) (signWord v22) (Scalar.remsi v22 128#32) v41 hw acc (k0_t1_loop v22 v41).trips (ix2 s 0)
      = acc (ix2 s 0) + segSum q (fun r => v10 (ix2 r 0)) s.val := by
  rw [denAfter_apply v10 h q hq hw acc s _ le_rfl, all_chunks h q hq hab]

end Cert.KernelIdeal.Contribution

end
-- ==== Proof.KernelIdeal.Accumulate.lean ====
/- The accumulators after the points: after point `n` they hold, for every segment, the sums over the rows of the first
   `n + 1` blocks. So the output after the last point is the pooled message. -/
module

public import proofs.«01_k».proof.Proof.Spec
public import proofs.«01_k».proof.Proof.KernelIdeal.Contribution

@[expose] public section

set_option maxRecDepth 16384

noncomputable section

namespace Cert.KernelIdeal.Accumulate

open Cert.KernelIdeal Cert.KernelIdeal.Gen Cert.KernelIdeal.Body Cert.KernelIdeal.Launch Cert.KernelIdeal.Blocks
open Cert.KernelIdeal.Payloads Cert.KernelIdeal.Contribution Cert.KernelIdeal.Sorted
open Idealize.ShloMosaic Idealize.ShloMosaic.TcCoe

variable (m : (ℓ : Loc nD τ sig) → Buf (Elt Ideal) ℓ)

/-- The six arrays of device `c`. -/
abbrev X (c : Dev nD) : FVec Ideal ⟨2, ![320000, 128]⟩ .f32 := m ((c : Thread nD τ).loc main_arg0)
abbrev Q (c : Dev nD) : IVec ⟨1, ![320000]⟩ 32 := m ((c : Thread nD τ).loc main_arg1)
abbrev GW (c : Dev nD) : FVec Ideal ⟨2, ![128, 1]⟩ .f32 := m ((c : Thread nD τ).loc main_arg2)
abbrev GB (c : Dev nD) : FVec Ideal ⟨1, ![1]⟩ .f32 := m ((c : Thread nD τ).loc main_arg3)
abbrev MW (c : Dev nD) : FVec Ideal ⟨2, ![128, 128]⟩ .f32 := m ((c : Thread nD τ).loc main_arg4)
abbrev MB (c : Dev nD) : FVec Ideal ⟨1, ![128]⟩ .f32 := m ((c : Thread nD τ).loc main_arg5)

/-- Row `r` of point `t`'s block, among all rows. -/
abbrev row (t : Fin cfg0.N) (r : Fin 2560) : Fin 320000 := ⟨t.val * 2560 + r.val, row_lt t r.isLt⟩

theorem gate_blk (c : Dev nD) (t : Fin cfg0.N) (r : Fin 2560) :
    Ideal.exp (∑ d : Fin 128, (show FVec Ideal S2560x128 .f32 from blk1 m c t) (ix2 r d) * (show FVec Ideal S128x1 .f32 from blk2 m c t) (ix2 d 0)
      + (show FVec Ideal S1x1 .f32 from blk3 m c t) (ix2 0 0)) = Spec.weight (X m c) (GW m c) (GB m c) (row t r) := by
  unfold Spec.weight Spec.gate
  refine congrArg Ideal.exp (congrArg₂ (· + ·) (Finset.sum_congr rfl fun d _ => congrArg₂ (· * ·) ?_ ?_) ?_)
  · exact blk1_apply m c t (ix2 r d) (ix2 (row t r) d) rfl rfl
  · exact blk2_apply m c t (ix2 d 0)
  · exact blk3_apply m c t (ix2 0 0) (ix1 0)

theorem message_blk (c : Dev nD) (t : Fin cfg0.N) (r : Fin 2560) (j : Fin 128) :
    (∑ d : Fin 128, (show FVec Ideal S2560x128 .f32 from blk1 m c t) (ix2 r d) * (show FVec Ideal S128x128 .f32 from blk4 m c t) (ix2 d j)
      + (show FVec Ideal S1x128 .f32 from blk5 m c t) (ix2 0 j)) = Spec.message (X m c) (MW m c) (MB m c) (row t r) j := by
  unfold Spec.message
  refine congrArg₂ (· + ·) (Finset.sum_congr rfl fun d _ => congrArg₂ (· * ·) ?_ ?_) ?_
  · exact blk1_apply m c t (ix2 r d) (ix2 (row t r) d) rfl rfl
  · exact blk4_apply m c t (ix2 d j)
  · exact blk5_apply m c t (ix2 0 j) (ix1 j) rfl

/-- The number of a block's row is the array's. -/
theorem seg_blk (c : Dev nD) (t : Fin cfg0.N) (r : Fin 2560) :
    k0_pay13 (F := Ideal) (blk0 m c t) (ix1 r) = Q m c (ix1 (row t r)) :=
  (pay13_apply m c t (ix1 r) r rfl).trans (congrArg (Q m c) (Segments.eq_rowIx (ix1 (row t r))).symm)

/-- A block's sum, as a stretch of the terms over all rows. -/
theorem block_sum (c : Dev nD) (t : Fin cfg0.N) (v : Fin 2560 → EReal) (w : Fin 320000 → EReal) (hv : ∀ r, v r = w (row t r)) (s : ℕ) :
    segSum (k0_pay13 (F := Ideal) (blk0 m c t)) v s = ∑ r ∈ Finset.range 2560, Spec.term (Q m c) w s (t.val * 2560 + r) := by
  unfold segSum
  rw [Finset.sum_range]
  refine Finset.sum_congr rfl fun r _ => ?_
  unfold Spec.term
  rw [dif_pos (row_lt t r.isLt), seg_blk, hv]

variable (hs : ∀ c, Segments.Sorted (segs m c))
include hs

/-- What a block adds to the output and to the denominators. -/
theorem out_block (c : Dev nD) (t : Fin cfg0.N) (hw) (acc : FVec Ideal S10000x128 .f32) (s : Fin 10000) (j : Fin 128) :
    outBlock (F := Ideal) (blk0 m c t) (blk1 m c t) (blk2 m c t) (blk3 m c t) (blk4 m c t) (blk5 m c t) hw acc (ix2 s j)
      = acc (ix2 s j) + ∑ r ∈ Finset.range 2560, Spec.term (Q m c)
          (fun k => Spec.weight (X m c) (GW m c) (GB m c) k * Spec.message (X m c) (MW m c) (MB m c) k j) s.val (t.val * 2560 + r) := by
  unfold outBlock
  rw [outAll_apply _ (range m hs c t) _ (fun r => by rw [pay13_apply m c t (ix1 r) r rfl]; exact seg_lt m hs c t r) hw
    (fun r => by
      rw [pay13_apply m c t (ix1 r) r rfl]
      exact ⟨seg_mono m hs c t (Nat.zero_le _), seg_mono m hs c t (Nat.le_of_lt_succ r.isLt)⟩)]
  refine congrArg _ (block_sum m c t _ _ (fun r => ?_) s.val)
  rw [weighted_apply]
  exact congrArg₂ (· * ·) (gate_blk m c t r) (message_blk m c t r j)

theorem den_block (c : Dev nD) (t : Fin cfg0.N) (hw) (acc : FVec Ideal S10000x1 .f32) (s : Fin 10000) :
    denBlock (F := Ideal) (blk0 m c t) (blk1 m c t) (blk2 m c t) (blk3 m c t) hw acc (ix2 s 0)
      = acc (ix2 s 0) + ∑ r ∈ Finset.range 2560, Spec.term (Q m c) (Spec.weight (X m c) (GW m c) (GB m c)) s.val (t.val * 2560 + r) := by
  unfold denBlock
  rw [denAll_apply _ (range m hs c t) _ (fun r => by rw [pay13_apply m c t (ix1 r) r rfl]; exact seg_lt m hs c t r) hw
    (fun r => by
      rw [pay13_apply m c t (ix1 r) r rfl]
      exact ⟨seg_mono m hs c t (Nat.zero_le _), seg_mono m hs c t (Nat.le_of_lt_succ r.isLt)⟩)]
  refine congrArg _ (block_sum m c t _ _ (fun r => ?_) s.val)
  rw [weight_apply]
  exact gate_blk m c t r

variable (hw : ∀ (c : Dev nD) (t : Fin cfg0.N), k0_chk1 (firstSeg (blk0 m c t)) (lastSeg (blk0 m c t)))

theorem acc_out (c : Dev nD) (s : Fin 10000) (j : Fin 128) : ∀ (n : ℕ) (hn : n < cfg0.N),
    (acc m hw c n hn).1 (ix2 s j) = ∑ k ∈ Finset.range ((n + 1) * 2560), Spec.term (Q m c)
      (fun k => Spec.weight (X m c) (GW m c) (GB m c) k * Spec.message (X m c) (MW m c) (MB m c) k j) s.val k
  | 0, hn => by
    refine (out_block m hs c ⟨0, hn⟩ (hw c ⟨0, hn⟩) k0_pay9 s j).trans ?_
    rw [zeroOut_apply, zero_add, Nat.zero_add, Nat.one_mul]
    exact Finset.sum_congr rfl fun r _ => congrArg _ ((congrArg (· + r) (Nat.zero_mul 2560)).trans (Nat.zero_add r))
  | n + 1, hn => by
    refine (out_block m hs c ⟨n + 1, hn⟩ (hw c ⟨n + 1, hn⟩) _ s j).trans ?_
    rw [acc_out c s j n (Nat.lt_of_succ_lt hn), Nat.succ_mul (n + 1) 2560, Finset.sum_range_add]

theorem acc_den (c : Dev nD) (s : Fin 10000) : ∀ (n : ℕ) (hn : n < cfg0.N),
    (acc m hw c n hn).2 (ix2 s 0) = ∑ k ∈ Finset.range ((n + 1) * 2560), Spec.term (Q m c) (Spec.weight (X m c) (GW m c) (GB m c)) s.val k
  | 0, hn => by
    refine (den_block m hs c ⟨0, hn⟩ (hw c ⟨0, hn⟩) k0_pay10 s).trans ?_
    rw [zeroDen_apply, zero_add, Nat.zero_add, Nat.one_mul]
    exact Finset.sum_congr rfl fun r _ => congrArg _ ((congrArg (· + r) (Nat.zero_mul 2560)).trans (Nat.zero_add r))
  | n + 1, hn => by
    refine (den_block m hs c ⟨n + 1, hn⟩ (hw c ⟨n + 1, hn⟩) _ s).trans ?_
    rw [acc_den c s n (Nat.lt_of_succ_lt hn), Nat.succ_mul (n + 1) 2560, Finset.sum_range_add]

theorem left_at (c : Dev nD) (hn : 124 < cfg0.N) (s : Fin 10000) (j : Fin 128) :
    left m hw c 124 hn (ix2 s j) = Spec.pooled (X m c) (Q m c) (GW m c) (GB m c) (MW m c) (MB m c) s.val j := by
  have e1 := acc_out m hs hw c s j 124 hn
  have e2 := acc_den m hs hw c s 124 hn
  have e : (124 + 1) * 2560 = 320000 := by norm_num
  rw [e, ← Spec.total_eq] at e1 e2
  unfold left
  rw [if_pos rfl, quotient_apply, e1, e2]
  rfl

/-- What the last point leaves in the output. -/
theorem left_apply (c : Dev nD) (t : Fin cfg0.N) (ht : t.val = 124) (s : Fin 10000) (j : Fin 128) :
    left m hw c t.val t.isLt (ix2 s j) = Spec.pooled (X m c) (Q m c) (GW m c) (GB m c) (MW m c) (MB m c) s.val j := by
  obtain ⟨n, hn⟩ := t
  obtain rfl : n = 124 := ht
  exact left_at m hs hw c hn s j

end Cert.KernelIdeal.Accumulate

end
-- ==== Proof.KernelIdeal.Result.lean ====
/- The result array. The output's block is the whole array and is written back once, after the last point, so the result
   holds the pooled message of every segment and channel, and the arguments end unchanged. -/
module

public import proofs.«01_k».proof.Proof.KernelIdeal.Accumulate

@[expose] public section

set_option maxRecDepth 16384

noncomputable section

namespace Cert.KernelIdeal.Result

open Cert.KernelIdeal Cert.KernelIdeal.Gen Cert.KernelIdeal.Launch Cert.KernelIdeal.Sorted Cert.KernelIdeal.Accumulate
open Idealize.ShloMosaic Idealize.ShloMosaic.TcCoe

variable (m : (ℓ : Loc nD τ sig) → Buf (Elt Ideal) ℓ)

/-- The pooled messages of device `c`, as an array. -/
def pooled (c : Dev nD) : FVec Ideal ⟨2, ![10000, 128]⟩ .f32 :=
  fun i => Spec.pooled (X m c) (Q m c) (GW m c) (GB m c) (MW m c) (MB m c) (i 0).val (i 1)

theorem index6 : ∀ t : Fin cfg0.N, win0_6.index t = ![0, 0] :=
  (by decide +kernel : ∀ t : Fin grid0.N, win0_6.index t = ![0, 0])

variable (hs : ∀ c, Segments.Sorted (segs m c))

theorem point (c : Dev nD) (t : Fin cfg0.N) (ht : t.val = 124) (i : (⟨2, ![10000, 128]⟩ : Shape).Idx) :
    left m (inside m hs) c t.val t.isLt i = pooled m c i := by
  rw [eq_ix2 i]
  exact left_apply m hs (inside m hs) c t ht (i 0) (i 1)

theorem final (c : Dev nD) : (dats m (inside m hs) 0 c).arrAt 6 cfg0.N = pooled m c := by
  refine (dats m (inside m hs) 0 c).arrAt_eq_of_covers 6 _ (by decide +kernel) fun t hf y => ?_
  have hN : t.val < 125 := lt_of_lt_of_eq t.isLt (show cfg0.N = 125 from N_0)
  have ht : t.val = 124 := by have := (flush0_6 t).mp hf; omega
  blk_simp
  rw [after6]
  refine (point m hs c t ht y).trans (congrArg (pooled m c) (funext fun a => Fin.ext ?_))
  match a with
  | ⟨0, _⟩ => blk_simp [index6 t]
  | ⟨1, _⟩ => blk_simp [index6 t]

include hs in
/-- The run: the result holds the pooled messages, and the arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v3) = pooled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).trans (final m hs c), h.2.1 c⟩)
    (θ_run_and (run_out m ρ (inside m hs)) (frame_run m ρ (inside m hs)))

end Cert.KernelIdeal.Result

end
-- ==== Proof.Values.lean ====
/- The value claims: the kernel and each reference leave the same array. -/
module

public import proofs.«01_k».proof.Proof.Frames
public import proofs.«01_k».proof.Proof.Unshifted
public import proofs.«01_k».proof.Proof.Shifted
public import proofs.«01_k».proof.Proof.KernelIdeal.Result

@[expose] public section

noncomputable section

namespace Cert.Values

open Idealize.ShloMosaic Idealize.SL.Sem

/-- The unshifted reference's result array is the pooled messages of the same arguments. -/
theorem unshifted_array (x : FVec Ideal ⟨2, ![320000, 128]⟩ .f32) (q : IVec ⟨1, ![320000]⟩ 32) (gw : FVec Ideal ⟨2, ![128, 1]⟩ .f32)
    (gb : FVec Ideal ⟨1, ![1]⟩ .f32) (mw : FVec Ideal ⟨2, ![128, 128]⟩ .f32) (mb : FVec Ideal ⟨1, ![128]⟩ .f32)
    (hs : Segments.Sorted q) : UnshiftedIdeal.Read.val_main_v26 (F := Ideal) x q gw gb mw mb
      = fun i => Spec.pooled x q gw gb mw mb (i 0).val (i 1) := by
  funext i
  conv_lhs => rw [eq_ix2 i]
  exact Unshifted.result_apply x q gw gb mw mb hs (i 0) (i 1)

theorem unshifted : algebraic_KernelIdeal_UnshiftedIdeal := fun m g m' g' hpre hag => by
  have hs := Frames.sorted_ideal m hpre
  refine ⟨KernelIdeal.Result.pooled m, KernelIdeal.Result.run m hs g, (θ_run UnshiftedIdeal.defs _ _).mono
    (fun r h c => ⟨(h c).1.trans ((UnshiftedIdeal.Read.val_main_v26_eq _ _ _ _ _ _).trans ?_), (h c).2⟩)
    (UnshiftedIdeal.Value.run (F := Ideal) m' g')⟩
  obtain ⟨h0, h1, h2, h3, h4, h5⟩ := hag c
  rw [h0, h1, h2, h3, h4, h5]
  exact unshifted_array _ _ _ _ _ _ (hs c)

/-- The shifted reference's result array likewise, when no gate is +inf. -/
theorem shifted_array (x : FVec Ideal ⟨2, ![320000, 128]⟩ .f32) (q : IVec ⟨1, ![320000]⟩ 32) (gw : FVec Ideal ⟨2, ![128, 1]⟩ .f32)
    (gb : FVec Ideal ⟨1, ![1]⟩ .f32) (mw : FVec Ideal ⟨2, ![128, 128]⟩ .f32) (mb : FVec Ideal ⟨1, ![128]⟩ .f32)
    (hs : Segments.Sorted q) (hg : ∀ k, Spec.gate x gw gb k < ⊤) : ReferenceIdeal.Read.val_main_v53 (F := Ideal) x q gw gb mw mb
      = fun i => Spec.pooled x q gw gb mw mb (i 0).val (i 1) := by
  funext i
  conv_lhs => rw [eq_ix2 i]
  exact Shifted.result_apply x q gw gb mw mb hs hg (i 0) (i 1)

/-- The gate the precondition bounds is the one both programs compute. -/
theorem gates_apply (x : FVec Ideal ⟨2, ![320000, 128]⟩ .f32) (gw : FVec Ideal ⟨2, ![128, 1]⟩ .f32)
    (gb : FVec Ideal ⟨1, ![1]⟩ .f32) (k : Fin 320000) : Segments.gates x gw gb (Segments.gateIx k.val k.isLt) = Spec.gate x gw gb k := by
  have e : Segments.gateIx k.val k.isLt = ix2 k 0 := by
    funext a
    match a with
    | ⟨0, _⟩ => rfl
    | ⟨1, _⟩ => rfl
  rw [e]
  unfold Spec.gate
  pointwise [Segments.gates]

theorem shifted : algebraic_KernelIdeal_ReferenceIdeal_pre_sorted_segments_gates_below_inf := fun m g m' g' hpre hag => by
  have hs := Frames.sorted_ideal_below m hpre
  refine ⟨KernelIdeal.Result.pooled m, KernelIdeal.Result.run m hs g, (θ_run ReferenceIdeal.defs _ _).mono
    (fun r h c => ⟨(h c).1.trans ((ReferenceIdeal.Read.val_main_v53_eq m' c).trans ?_), (h c).2⟩)
    (ReferenceIdeal.Value.run (F := Ideal) m' g')⟩
  obtain ⟨h0, h1, h2, h3, h4, h5⟩ := hag c
  rw [h0, h1, h2, h3, h4, h5]
  exact shifted_array _ _ _ _ _ _ (hs c) fun k => lt_of_eq_of_lt (gates_apply _ _ _ k).symm
    ((Segments.of_pre _ _ _ _ _ _ (hpre c)).2 k.val k.isLt)

end Cert.Values

end
-- ==== Proof.lean ====
module

public import proofs.«01_k».proof.Defs
public import proofs.«01_k».proof.Proof.Frames
public import proofs.«01_k».proof.Proof.Values

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.UnshiftedIdeal.Gen.facts, Cert.Pre_sorted_segments.Gen.facts, Cert.Pre_sorted_segments_gates_below_inf.Gen.facts,
  Frames.kernel, Frames.ideal, Frames.ideal_below, Frames.reference, Frames.reference_below, Frames.unshifted, Frames.unshifted_sorted,
  trivial, Values.shifted, Values.unshifted⟩

end Cert.Proof

end
